-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6))
      ∧ r.2.sem = fun _ => 0)

def preserves_Kernel_KernelIdeal : Prop :=
  IdealRules.named_const.Statement Cert.KernelIdeal.κ "inv_bc1" .f32 0x3F91B733#32 ((100000000000000000000 / 87842334540943071199 : ℝ) : EReal)
  ∧ IdealRules.named_const.Statement Cert.KernelIdeal.κ "inv_bc2" .f32 0x3FC78729#32 ((104857600000000000000000000 / 67267626542454041806644399 : ℝ) : EReal)

def preserves_Reference_ReferenceIdeal : Prop :=
  IdealRules.named_const.Statement Cert.ReferenceIdeal.κ "bc1" .f32 0x3F60E05A#32 ((87842334540943071199 / 100000000000000000000 : ℝ) : EReal)
  ∧ IdealRules.named_const.Statement Cert.ReferenceIdeal.κ "bc2" .f32 0x3F243A44#32 ((67267626542454041806644399 / 104857600000000000000000000 : ℝ) : EReal)
  ∧ IdealRules.named_const.Statement Cert.ReferenceIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)) (v6 : (c : Dev Cert.KernelIdeal.nD) → Buf (Elt Ideal) ((c.tc : Thread Cert.KernelIdeal.nD Cert.KernelIdeal.τ).loc Cert.KernelIdeal.main_v1_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_v1_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S4x8192x5120 : Shape := ⟨3, ![4, 8192, 5120]⟩
abbrev S4x8192x40 : Shape := ⟨3, ![4, 8192, 40]⟩
abbrev S8192x5120 : Shape := ⟨2, ![8192, 5120]⟩
abbrev S1 : Shape := ⟨1, ![1]⟩
abbrev S32x128 : Shape := ⟨2, ![32, 128]⟩
abbrev S4x128x5120 : Shape := ⟨3, ![4, 128, 5120]⟩
abbrev S4x128x40 : Shape := ⟨3, ![4, 128, 40]⟩
abbrev S1x32x128 : Shape := ⟨3, ![1, 32, 128]⟩
abbrev S1x32x1 : Shape := ⟨3, ![1, 32, 1]⟩
abbrev S32x1 : Shape := ⟨2, ![32, 1]⟩
abbrev S8192x40 : Shape := ⟨2, ![8192, 40]⟩
abbrev S4x64x5120 : Shape := ⟨3, ![4, 64, 5120]⟩
abbrev S4x64x40 : Shape := ⟨3, ![4, 64, 40]⟩
abbrev S64x5120 : Shape := ⟨2, ![64, 5120]⟩
abbrev S64x40 : Shape := ⟨2, ![64, 40]⟩
abbrev S1x1x1 : Shape := ⟨3, ![1, 1, 1]⟩
abbrev S8x128 : Shape := ⟨2, ![8, 128]⟩
abbrev S1x8x128 : Shape := ⟨3, ![1, 8, 128]⟩
abbrev S32 : Shape := ⟨1, ![32]⟩

abbrev nBuf : Space → Nat
  | .hbm => 15
  | .vmem => 28
  | .smem => 3
  | _ => 0

abbrev bufTy : (tb : Table) → Fin (tcTables nBuf tb) → BufTy
  | .hbm, ⟨0, _⟩ => ⟨S4x8192x5120, .fp8e5m2⟩
  | .hbm, ⟨1, _⟩ => ⟨S4x8192x40, .f32⟩
  | .hbm, ⟨2, _⟩ => ⟨S8192x5120, .f32⟩
  | .hbm, ⟨3, _⟩ => ⟨S8192x5120, .f32⟩
  | .hbm, ⟨4, _⟩ => ⟨S8192x5120, .f32⟩
  | .hbm, ⟨5, _⟩ => ⟨S1, .f32⟩
  | .hbm, ⟨6, _⟩ => ⟨S1, .f32⟩
  | .hbm, ⟨7, _⟩ => ⟨S32x128, .f32⟩
  | .hbm, ⟨8, _⟩ => ⟨S8192x5120, .f32⟩
  | .hbm, ⟨9, _⟩ => ⟨S8192x5120, .f32⟩
  | .hbm, ⟨10, _⟩ => ⟨S8192x5120, .f32⟩
  | .hbm, ⟨11, _⟩ => ⟨S8192x5120, .f32⟩
  | .hbm, ⟨12, _⟩ => ⟨S1, .f32⟩
  | .hbm, ⟨13, _⟩ => ⟨S8192x5120, .fp8e4m3⟩
  | .hbm, ⟨14, _⟩ => ⟨S8192x40, .f32⟩
  | .local _ .vmem, ⟨0, _⟩ => ⟨S4x128x5120, .fp8e5m2⟩
  | .local _ .vmem, ⟨1, _⟩ => ⟨S4x128x5120, .fp8e5m2⟩
  | .local _ .vmem, ⟨2, _⟩ => ⟨S4x128x40, .f32⟩
  | .local _ .vmem, ⟨3, _⟩ => ⟨S4x128x40, .f32⟩
  | .local _ .vmem, ⟨4, _⟩ => ⟨S32x128, .f32⟩
  | .local _ .vmem, ⟨5, _⟩ => ⟨S32x128, .f32⟩
  | .local _ .vmem, ⟨6, _⟩ => ⟨S4x64x5120, .fp8e5m2⟩
  | .local _ .vmem, ⟨7, _⟩ => ⟨S4x64x5120, .fp8e5m2⟩
  | .local _ .vmem, ⟨8, _⟩ => ⟨S4x64x40, .f32⟩
  | .local _ .vmem, ⟨9, _⟩ => ⟨S4x64x40, .f32⟩
  | .local _ .vmem, ⟨10, _⟩ => ⟨S64x5120, .f32⟩
  | .local _ .vmem, ⟨11, _⟩ => ⟨S64x5120, .f32⟩
  | .local _ .vmem, ⟨12, _⟩ => ⟨S64x5120, .f32⟩
  | .local _ .vmem, ⟨13, _⟩ => ⟨S64x5120, .f32⟩
  | .local _ .vmem, ⟨14, _⟩ => ⟨S64x5120, .f32⟩
  | .local _ .vmem, ⟨15, _⟩ => ⟨S64x5120, .f32⟩
  | .local _ .vmem, ⟨16, _⟩ => ⟨S64x5120, .f32⟩
  | .local _ .vmem, ⟨17, _⟩ => ⟨S64x5120, .f32⟩
  | .local _ .vmem, ⟨18, _⟩ => ⟨S64x5120, .f32⟩
  | .local _ .vmem, ⟨19, _⟩ => ⟨S64x5120, .f32⟩
  | .local _ .vmem, ⟨20, _⟩ => ⟨S64x5120, .f32⟩
  | .local _ .vmem, ⟨21, _⟩ => ⟨S64x5120, .f32⟩
  | .local _ .vmem, ⟨22, _⟩ => ⟨S64x5120, .f32⟩
  | .local _ .vmem, ⟨23, _⟩ => ⟨S64x5120, .f32⟩
  | .local _ .vmem, ⟨24, _⟩ => ⟨S64x5120, .fp8e4m3⟩
  | .local _ .vmem, ⟨25, _⟩ => ⟨S64x5120, .fp8e4m3⟩
  | .local _ .vmem, ⟨26, _⟩ => ⟨S64x40, .f32⟩
  | .local _ .vmem, ⟨27, _⟩ => ⟨S64x40, .f32⟩
  | .local _ .smem, ⟨0, _⟩ => ⟨S1, .f32⟩
  | .local _ .smem, ⟨1, _⟩ => ⟨S1, .f32⟩
  | .local _ .smem, ⟨2, _⟩ => ⟨S1, .f32⟩
  | _, _ => ⟨S4x8192x5120, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc1_stg8_0 : Ref sig .tc := ⟨.vmem, 16, rfl⟩
abbrev cc1_stg8_1 : Ref sig .tc := ⟨.vmem, 17, rfl⟩
abbrev cc1_stg9_0 : Ref sig .tc := ⟨.vmem, 18, rfl⟩
abbrev cc1_stg9_1 : Ref sig .tc := ⟨.vmem, 19, rfl⟩
abbrev cc1_stg10_0 : Ref sig .tc := ⟨.vmem, 20, rfl⟩
abbrev cc1_stg10_1 : Ref sig .tc := ⟨.vmem, 21, rfl⟩
abbrev cc1_stg11_0 : Ref sig .tc := ⟨.vmem, 22, rfl⟩
abbrev cc1_stg11_1 : Ref sig .tc := ⟨.vmem, 23, rfl⟩
abbrev cc1_stg13_0 : Ref sig .tc := ⟨.vmem, 24, rfl⟩
abbrev cc1_stg13_1 : Ref sig .tc := ⟨.vmem, 25, rfl⟩
abbrev cc1_stg14_0 : Ref sig .tc := ⟨.vmem, 26, rfl⟩
abbrev cc1_stg14_1 : Ref sig .tc := ⟨.vmem, 27, rfl⟩
abbrev cc1_stg1_0 : Ref sig .tc := ⟨.smem, 0, rfl⟩
abbrev cc1_stg2_0 : Ref sig .tc := ⟨.smem, 1, rfl⟩
abbrev cc1_stg12_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev cc1_sem6_1 : DmaSem sig := 15
abbrev cc1_sem7_0 : DmaSem sig := 16
abbrev cc1_sem7_1 : DmaSem sig := 17
abbrev cc1_sem8_0 : DmaSem sig := 18
abbrev cc1_sem8_1 : DmaSem sig := 19
abbrev cc1_sem9_0 : DmaSem sig := 20
abbrev cc1_sem9_1 : DmaSem sig := 21
abbrev cc1_sem10_0 : DmaSem sig := 22
abbrev cc1_sem10_1 : DmaSem sig := 23
abbrev cc1_sem11_0 : DmaSem sig := 24
abbrev cc1_sem11_1 : DmaSem sig := 25
abbrev cc1_sem12_0 : DmaSem sig := 26
abbrev cc1_sem13_0 : DmaSem sig := 27
abbrev cc1_sem13_1 : DmaSem sig := 28
abbrev cc1_sem14_0 : DmaSem sig := 29
abbrev cc1_sem14_1 : DmaSem sig := 30

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_2 : BitVec 32 := 0#32
  let c4_i32 : BitVec 32 := 4#32
  let v6 : BitVec 32 := Scalar.addi c0_i32_2 c4_i32
  let c1_i32 : BitVec 32 := 1#32
  ⟨c0_i32_2, v6, c1_i32⟩
def k0_mult1 (k0_t1 : Fin k0_t1_loop.trips) : BitVec 32 :=
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  v10
def k0_off1 (k0_t1 : Fin k0_t1_loop.trips) : Fin 3 → Nat :=
  let c0_6 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v12 : Index := Scalar.indexCast v11
  let c0_7 : Index := 0#32
  ![0, v12.toNat, 0]
def k0_off2 (k0_t1 : Fin k0_t1_loop.trips) : Fin 3 → Nat :=
  let c0_8 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v16 : Index := Scalar.indexCast v11
  let c0_9 : Index := 0#32
  ![0, v16.toNat, 0]
def k0_off3 (k0_t1 : Fin k0_t1_loop.trips) : Fin 3 → Nat :=
  let c1 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v21 : Index := Scalar.indexCast v11
  let c0_10 : Index := 0#32
  ![1, v21.toNat, 0]
def k0_off4 (k0_t1 : Fin k0_t1_loop.trips) : Fin 3 → Nat :=
  let c1_11 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v25 : Index := Scalar.indexCast v11
  let c0_12 : Index := 0#32
  ![1, v25.toNat, 0]
def k0_off5 (k0_t1 : Fin k0_t1_loop.trips) : Fin 3 → Nat :=
  let c2 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v31 : Index := Scalar.indexCast v11
  let c0_13 : Index := 0#32
  ![2, v31.toNat, 0]
def k0_off6 (k0_t1 : Fin k0_t1_loop.trips) : Fin 3 → Nat :=
  let c2_14 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v35 : Index := Scalar.indexCast v11
  let c0_15 : Index := 0#32
  ![2, v35.toNat, 0]
def k0_off7 (k0_t1 : Fin k0_t1_loop.trips) : Fin 3 → Nat :=
  let c3 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v41 : Index := Scalar.indexCast v11
  let c0_16 : Index := 0#32
  ![3, v41.toNat, 0]
def k0_off8 (k0_t1 : Fin k0_t1_loop.trips) : Fin 3 → Nat :=
  let c3_17 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v45 : Index := Scalar.indexCast v11
  let c0_18 : Index := 0#32
  ![3, v45.toNat, 0]
def k0_off9 (k0_t1 : Fin k0_t1_loop.trips) : Fin 3 → Nat :=
  let c0_20 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v55 : Index := Scalar.indexCast v11
  let c128 : Index := 128#32
  ![0, v55.toNat, 128]
def k0_off10 (k0_t1 : Fin k0_t1_loop.trips) : Fin 3 → Nat :=
  let c0_21 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v59 : Index := Scalar.indexCast v11
  let c1_22 : Index := 1#32
  ![0, v59.toNat, 1]
def k0_off11 (k0_t1 : Fin k0_t1_loop.trips) : Fin 3 → Nat :=
  let c1_23 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v64 : Index := Scalar.indexCast v11
  let c128_24 : Index := 128#32
  ![1, v64.toNat, 128]
def k0_off12 (k0_t1 : Fin k0_t1_loop.trips) : Fin 3 → Nat :=
  let c1_25 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v68 : Index := Scalar.indexCast v11
  let c1_26 : Index := 1#32
  ![1, v68.toNat, 1]
def k0_off13 (k0_t1 : Fin k0_t1_loop.trips) : Fin 3 → Nat :=
  let c2_27 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v74 : Index := Scalar.indexCast v11
  let c128_28 : Index := 128#32
  ![2, v74.toNat, 128]
def k0_off14 (k0_t1 : Fin k0_t1_loop.trips) : Fin 3 → Nat :=
  let c2_29 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v78 : Index := Scalar.indexCast v11
  let c1_30 : Index := 1#32
  ![2, v78.toNat, 1]
def k0_off15 (k0_t1 : Fin k0_t1_loop.trips) : Fin 3 → Nat :=
  let c3_31 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v84 : Index := Scalar.indexCast v11
  let c128_32 : Index := 128#32
  ![3, v84.toNat, 128]
def k0_off16 (k0_t1 : Fin k0_t1_loop.trips) : Fin 3 → Nat :=
  let c3_33 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v88 : Index := Scalar.indexCast v11
  let c1_34 : Index := 1#32
  ![3, v88.toNat, 1]
def k0_off17 (k0_t1 : Fin k0_t1_loop.trips) : Fin 3 → Nat :=
  let c0_36 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v98 : Index := Scalar.indexCast v11
  let c256 : Index := 256#32
  ![0, v98.toNat, 256]
def k0_off18 (k0_t1 : Fin k0_t1_loop.trips) : Fin 3 → Nat :=
  let c0_37 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v102 : Index := Scalar.indexCast v11
  let c2_38 : Index := 2#32
  ![0, v102.toNat, 2]
def k0_off19 (k0_t1 : Fin k0_t1_loop.trips) : Fin 3 → Nat :=
  let c1_39 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v107 : Index := Scalar.indexCast v11
  let c256_40 : Index := 256#32
  ![1, v107.toNat, 256]
def k0_off20 (k0_t1 : Fin k0_t1_loop.trips) : Fin 3 → Nat :=
  let c1_41 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v111 : Index := Scalar.indexCast v11
  let c2_42 : Index := 2#32
  ![1, v111.toNat, 2]
def k0_off21 (k0_t1 : Fin k0_t1_loop.trips) : Fin 3 → Nat :=
  let c2_43 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v117 : Index := Scalar.indexCast v11
  let c256_44 : Index := 256#32
  ![2, v117.toNat, 256]
def k0_off22 (k0_t1 : Fin k0_t1_loop.trips) : Fin 3 → Nat :=
  let c2_45 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v121 : Index := Scalar.indexCast v11
  let c2_46 : Index := 2#32
  ![2, v121.toNat, 2]
def k0_off23 (k0_t1 : Fin k0_t1_loop.trips) : Fin 3 → Nat :=
  let c3_47 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v127 : Index := Scalar.indexCast v11
  let c256_48 : Index := 256#32
  ![3, v127.toNat, 256]
def k0_off24 (k0_t1 : Fin k0_t1_loop.trips) : Fin 3 → Nat :=
  let c3_49 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v131 : Index := Scalar.indexCast v11
  let c2_50 : Index := 2#32
  ![3, v131.toNat, 2]
def k0_off25 (k0_t1 : Fin k0_t1_loop.trips) : Fin 3 → Nat :=
  let c0_52 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v141 : Index := Scalar.indexCast v11
  let c384 : Index := 384#32
  ![0, v141.toNat, 384]
def k0_off26 (k0_t1 : Fin k0_t1_loop.trips) : Fin 3 → Nat :=
  let c0_53 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v145 : Index := Scalar.indexCast v11
  let c3_54 : Index := 3#32
  ![0, v145.toNat, 3]
def k0_off27 (k0_t1 : Fin k0_t1_loop.trips) : Fin 3 → Nat :=
  let c1_55 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v150 : Index := Scalar.indexCast v11
  let c384_56 : Index := 384#32
  ![1, v150.toNat, 384]
def k0_off28 (k0_t1 : Fin k0_t1_loop.trips) : Fin 3 → Nat :=
  let c1_57 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v154 : Index := Scalar.indexCast v11
  let c3_58 : Index := 3#32
  ![1, v154.toNat, 3]
def k0_off29 (k0_t1 : Fin k0_t1_loop.trips) : Fin 3 → Nat :=
  let c2_59 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v160 : Index := Scalar.indexCast v11
  let c384_60 : Index := 384#32
  ![2, v160.toNat, 384]
def k0_off30 (k0_t1 : Fin k0_t1_loop.trips) : Fin 3 → Nat :=
  let c2_61 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v164 : Index := Scalar.indexCast v11
  let c3_62 : Index := 3#32
  ![2, v164.toNat, 3]
def k0_off31 (k0_t1 : Fin k0_t1_loop.trips) : Fin 3 → Nat :=
  let c3_63 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v170 : Index := Scalar.indexCast v11
  let c384_64 : Index := 384#32
  ![3, v170.toNat, 384]
def k0_off32 (k0_t1 : Fin k0_t1_loop.trips) : Fin 3 → Nat :=
  let c3_65 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v174 : Index := Scalar.indexCast v11
  let c3_66 : Index := 3#32
  ![3, v174.toNat, 3]
def k0_off33 (k0_t1 : Fin k0_t1_loop.trips) : Fin 3 → Nat :=
  let c0_68 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v184 : Index := Scalar.indexCast v11
  let c512 : Index := 512#32
  ![0, v184.toNat, 512]
def k0_off34 (k0_t1 : Fin k0_t1_loop.trips) : Fin 3 → Nat :=
  let c0_69 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v188 : Index := Scalar.indexCast v11
  let c4 : Index := 4#32
  ![0, v188.toNat, 4]
def k0_off35 (k0_t1 : Fin k0_t1_loop.trips) : Fin 3 → Nat :=
  let c1_70 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v193 : Index := Scalar.indexCast v11
  let c512_71 : Index := 512#32
  ![1, v193.toNat, 512]
def k0_off36 (k0_t1 : Fin k0_t1_loop.trips) : Fin 3 → Nat :=
  let c1_72 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v197 : Index := Scalar.indexCast v11
  let c4_73 : Index := 4#32
  ![1, v197.toNat, 4]
def k0_off37 (k0_t1 : Fin k0_t1_loop.trips) : Fin 3 → Nat :=
  let c2_74 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v203 : Index := Scalar.indexCast v11
  let c512_75 : Index := 512#32
  ![2, v203.toNat, 512]
def k0_off38 (k0_t1 : Fin k0_t1_loop.trips) : Fin 3 → Nat :=
  let c2_76 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v207 : Index := Scalar.indexCast v11
  let c4_77 : Index := 4#32
  ![2, v207.toNat, 4]
def k0_off39 (k0_t1 : Fin k0_t1_loop.trips) : Fin 3 → Nat :=
  let c3_78 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v213 : Index := Scalar.indexCast v11
  let c512_79 : Index := 512#32
  ![3, v213.toNat, 512]
def k0_off40 (k0_t1 : Fin k0_t1_loop.trips) : Fin 3 → Nat :=
  let c3_80 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v217 : Index := Scalar.indexCast v11
  let c4_81 : Index := 4#32
  ![3, v217.toNat, 4]
def k0_off41 (k0_t1 : Fin k0_t1_loop.trips) : Fin 3 → Nat :=
  let c0_83 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v227 : Index := Scalar.indexCast v11
  let c640 : Index := 640#32
  ![0, v227.toNat, 640]
def k0_off42 (k0_t1 : Fin k0_t1_loop.trips) : Fin 3 → Nat :=
  let c0_84 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v231 : Index := Scalar.indexCast v11
  let c5 : Index := 5#32
  ![0, v231.toNat, 5]
def k0_off43 (k0_t1 : Fin k0_t1_loop.trips) : Fin 3 → Nat :=
  let c1_85 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v236 : Index := Scalar.indexCast v11
  let c640_86 : Index := 640#32
  ![1, v236.toNat, 640]
def k0_off44 (k0_t1 : Fin k0_t1_loop.trips) : Fin 3 → Nat :=
  let c1_87 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v240 : Index := Scalar.indexCast v11
  let c5_88 : Index := 5#32
  ![1, v240.toNat, 5]
def k0_off45 (k0_t1 : Fin k0_t1_loop.trips) : Fin 3 → Nat :=
  let c2_89 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v246 : Index := Scalar.indexCast v11
  let c640_90 : Index := 640#32
  ![2, v246.toNat, 640]
def k0_off46 (k0_t1 : Fin k0_t1_loop.trips) : Fin 3 → Nat :=
  let c2_91 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v250 : Index := Scalar.indexCast v11
  let c5_92 : Index := 5#32
  ![2, v250.toNat, 5]
def k0_off47 (k0_t1 : Fin k0_t1_loop.trips) : Fin 3 → Nat :=
  let c3_93 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v256 : Index := Scalar.indexCast v11
  let c640_94 : Index := 640#32
  ![3, v256.toNat, 640]
def k0_off48 (k0_t1 : Fin k0_t1_loop.trips) : Fin 3 → Nat :=
  let c3_95 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v260 : Index := Scalar.indexCast v11
  let c5_96 : Index := 5#32
  ![3, v260.toNat, 5]
def k0_off49 (k0_t1 : Fin k0_t1_loop.trips) : Fin 3 → Nat :=
  let c0_98 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v270 : Index := Scalar.indexCast v11
  let c768 : Index := 768#32
  ![0, v270.toNat, 768]
def k0_off50 (k0_t1 : Fin k0_t1_loop.trips) : Fin 3 → Nat :=
  let c0_99 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v274 : Index := Scalar.indexCast v11
  let c6 : Index := 6#32
  ![0, v274.toNat, 6]
def k0_off51 (k0_t1 : Fin k0_t1_loop.trips) : Fin 3 → Nat :=
  let c1_100 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v279 : Index := Scalar.indexCast v11
  let c768_101 : Index := 768#32
  ![1, v279.toNat, 768]
def k0_off52 (k0_t1 : Fin k0_t1_loop.trips) : Fin 3 → Nat :=
  let c1_102 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v283 : Index := Scalar.indexCast v11
  let c6_103 : Index := 6#32
  ![1, v283.toNat, 6]
def k0_off53 (k0_t1 : Fin k0_t1_loop.trips) : Fin 3 → Nat :=
  let c2_104 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v289 : Index := Scalar.indexCast v11
  let c768_105 : Index := 768#32
  ![2, v289.toNat, 768]
def k0_off54 (k0_t1 : Fin k0_t1_loop.trips) : Fin 3 → Nat :=
  let c2_106 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v293 : Index := Scalar.indexCast v11
  let c6_107 : Index := 6#32
  ![2, v293.toNat, 6]
def k0_off55 (k0_t1 : Fin k0_t1_loop.trips) : Fin 3 → Nat :=
  let c3_108 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v299 : Index := Scalar.indexCast v11
  let c768_109 : Index := 768#32
  ![3, v299.toNat, 768]
def k0_off56 (k0_t1 : Fin k0_t1_loop.trips) : Fin 3 → Nat :=
  let c3_110 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v303 : Index := Scalar.indexCast v11
  let c6_111 : Index := 6#32
  ![3, v303.toNat, 6]
def k0_off57 (k0_t1 : Fin k0_t1_loop.trips) : Fin 3 → Nat :=
  let c0_113 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v313 : Index := Scalar.indexCast v11
  let c896 : Index := 896#32
  ![0, v313.toNat, 896]
def k0_off58 (k0_t1 : Fin k0_t1_loop.trips) : Fin 3 → Nat :=
  let c0_114 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v317 : Index := Scalar.indexCast v11
  let c7 : Index := 7#32
  ![0, v317.toNat, 7]
def k0_off59 (k0_t1 : Fin k0_t1_loop.trips) : Fin 3 → Nat :=
  let c1_115 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v322 : Index := Scalar.indexCast v11
  let c896_116 : Index := 896#32
  ![1, v322.toNat, 896]
def k0_off60 (k0_t1 : Fin k0_t1_loop.trips) : Fin 3 → Nat :=
  let c1_117 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v326 : Index := Scalar.indexCast v11
  let c7_118 : Index := 7#32
  ![1, v326.toNat, 7]
def k0_off61 (k0_t1 : Fin k0_t1_loop.trips) : Fin 3 → Nat :=
  let c2_119 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v332 : Index := Scalar.indexCast v11
  let c896_120 : Index := 896#32
  ![2, v332.toNat, 896]
def k0_off62 (k0_t1 : Fin k0_t1_loop.trips) : Fin 3 → Nat :=
  let c2_121 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v336 : Index := Scalar.indexCast v11
  let c7_122 : Index := 7#32
  ![2, v336.toNat, 7]
def k0_off63 (k0_t1 : Fin k0_t1_loop.trips) : Fin 3 → Nat :=
  let c3_123 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v342 : Index := Scalar.indexCast v11
  let c896_124 : Index := 896#32
  ![3, v342.toNat, 896]
def k0_off64 (k0_t1 : Fin k0_t1_loop.trips) : Fin 3 → Nat :=
  let c3_125 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v346 : Index := Scalar.indexCast v11
  let c7_126 : Index := 7#32
  ![3, v346.toNat, 7]
def k0_off65 (k0_t1 : Fin k0_t1_loop.trips) : Fin 3 → Nat :=
  let c0_128 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v356 : Index := Scalar.indexCast v11
  let c1024 : Index := 1024#32
  ![0, v356.toNat, 1024]
def k0_off66 (k0_t1 : Fin k0_t1_loop.trips) : Fin 3 → Nat :=
  let c0_129 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v360 : Index := Scalar.indexCast v11
  let c8 : Index := 8#32
  ![0, v360.toNat, 8]
def k0_off67 (k0_t1 : Fin k0_t1_loop.trips) : Fin 3 → Nat :=
  let c1_130 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v365 : Index := Scalar.indexCast v11
  let c1024_131 : Index := 1024#32
  ![1, v365.toNat, 1024]
def k0_off68 (k0_t1 : Fin k0_t1_loop.trips) : Fin 3 → Nat :=
  let c1_132 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v369 : Index := Scalar.indexCast v11
  let c8_133 : Index := 8#32
  ![1, v369.toNat, 8]
def k0_off69 (k0_t1 : Fin k0_t1_loop.trips) : Fin 3 → Nat :=
  let c2_134 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v375 : Index := Scalar.indexCast v11
  let c1024_135 : Index := 1024#32
  ![2, v375.toNat, 1024]
def k0_off70 (k0_t1 : Fin k0_t1_loop.trips) : Fin 3 → Nat :=
  let c2_136 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v379 : Index := Scalar.indexCast v11
  let c8_137 : Index := 8#32
  ![2, v379.toNat, 8]
def k0_off71 (k0_t1 : Fin k0_t1_loop.trips) : Fin 3 → Nat :=
  let c3_138 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v385 : Index := Scalar.indexCast v11
  let c1024_139 : Index := 1024#32
  ![3, v385.toNat, 1024]
def k0_off72 (k0_t1 : Fin k0_t1_loop.trips) : Fin 3 → Nat :=
  let c3_140 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v389 : Index := Scalar.indexCast v11
  let c8_141 : Index := 8#32
  ![3, v389.toNat, 8]
def k0_off73 (k0_t1 : Fin k0_t1_loop.trips) : Fin 3 → Nat :=
  let c0_143 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v399 : Index := Scalar.indexCast v11
  let c1152 : Index := 1152#32
  ![0, v399.toNat, 1152]
def k0_off74 (k0_t1 : Fin k0_t1_loop.trips) : Fin 3 → Nat :=
  let c0_144 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v403 : Index := Scalar.indexCast v11
  let c9 : Index := 9#32
  ![0, v403.toNat, 9]
def k0_off75 (k0_t1 : Fin k0_t1_loop.trips) : Fin 3 → Nat :=
  let c1_145 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v408 : Index := Scalar.indexCast v11
  let c1152_146 : Index := 1152#32
  ![1, v408.toNat, 1152]
def k0_off76 (k0_t1 : Fin k0_t1_loop.trips) : Fin 3 → Nat :=
  let c1_147 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v412 : Index := Scalar.indexCast v11
  let c9_148 : Index := 9#32
  ![1, v412.toNat, 9]
def k0_off77 (k0_t1 : Fin k0_t1_loop.trips) : Fin 3 → Nat :=
  let c2_149 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v418 : Index := Scalar.indexCast v11
  let c1152_150 : Index := 1152#32
  ![2, v418.toNat, 1152]
def k0_off78 (k0_t1 : Fin k0_t1_loop.trips) : Fin 3 → Nat :=
  let c2_151 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v422 : Index := Scalar.indexCast v11
  let c9_152 : Index := 9#32
  ![2, v422.toNat, 9]
def k0_off79 (k0_t1 : Fin k0_t1_loop.trips) : Fin 3 → Nat :=
  let c3_153 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v428 : Index := Scalar.indexCast v11
  let c1152_154 : Index := 1152#32
  ![3, v428.toNat, 1152]
def k0_off80 (k0_t1 : Fin k0_t1_loop.trips) : Fin 3 → Nat :=
  let c3_155 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v432 : Index := Scalar.indexCast v11
  let c9_156 : Index := 9#32
  ![3, v432.toNat, 9]
def k0_off81 (k0_t1 : Fin k0_t1_loop.trips) : Fin 3 → Nat :=
  let c0_158 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v442 : Index := Scalar.indexCast v11
  let c1280 : Index := 1280#32
  ![0, v442.toNat, 1280]
def k0_off82 (k0_t1 : Fin k0_t1_loop.trips) : Fin 3 → Nat :=
  let c0_159 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v446 : Index := Scalar.indexCast v11
  let c10 : Index := 10#32
  ![0, v446.toNat, 10]
def k0_off83 (k0_t1 : Fin k0_t1_loop.trips) : Fin 3 → Nat :=
  let c1_160 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v451 : Index := Scalar.indexCast v11
  let c1280_161 : Index := 1280#32
  ![1, v451.toNat, 1280]
def k0_off84 (k0_t1 : Fin k0_t1_loop.trips) : Fin 3 → Nat :=
  let c1_162 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v455 : Index := Scalar.indexCast v11
  let c10_163 : Index := 10#32
  ![1, v455.toNat, 10]
def k0_off85 (k0_t1 : Fin k0_t1_loop.trips) : Fin 3 → Nat :=
  let c2_164 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v461 : Index := Scalar.indexCast v11
  let c1280_165 : Index := 1280#32
  ![2, v461.toNat, 1280]
def k0_off86 (k0_t1 : Fin k0_t1_loop.trips) : Fin 3 → Nat :=
  let c2_166 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v465 : Index := Scalar.indexCast v11
  let c10_167 : Index := 10#32
  ![2, v465.toNat, 10]
def k0_off87 (k0_t1 : Fin k0_t1_loop.trips) : Fin 3 → Nat :=
  let c3_168 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v471 : Index := Scalar.indexCast v11
  let c1280_169 : Index := 1280#32
  ![3, v471.toNat, 1280]
def k0_off88 (k0_t1 : Fin k0_t1_loop.trips) : Fin 3 → Nat :=
  let c3_170 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v475 : Index := Scalar.indexCast v11
  let c10_171 : Index := 10#32
  ![3, v475.toNat, 10]
def k0_off89 (k0_t1 : Fin k0_t1_loop.trips) : Fin 3 → Nat :=
  let c0_173 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v485 : Index := Scalar.indexCast v11
  let c1408 : Index := 1408#32
  ![0, v485.toNat, 1408]
def k0_off90 (k0_t1 : Fin k0_t1_loop.trips) : Fin 3 → Nat :=
  let c0_174 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v489 : Index := Scalar.indexCast v11
  let c11 : Index := 11#32
  ![0, v489.toNat, 11]
def k0_off91 (k0_t1 : Fin k0_t1_loop.trips) : Fin 3 → Nat :=
  let c1_175 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v494 : Index := Scalar.indexCast v11
  let c1408_176 : Index := 1408#32
  ![1, v494.toNat, 1408]
def k0_off92 (k0_t1 : Fin k0_t1_loop.trips) : Fin 3 → Nat :=
  let c1_177 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v498 : Index := Scalar.indexCast v11
  let c11_178 : Index := 11#32
  ![1, v498.toNat, 11]
def k0_off93 (k0_t1 : Fin k0_t1_loop.trips) : Fin 3 → Nat :=
  let c2_179 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v504 : Index := Scalar.indexCast v11
  let c1408_180 : Index := 1408#32
  ![2, v504.toNat, 1408]
def k0_off94 (k0_t1 : Fin k0_t1_loop.trips) : Fin 3 → Nat :=
  let c2_181 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v508 : Index := Scalar.indexCast v11
  let c11_182 : Index := 11#32
  ![2, v508.toNat, 11]
def k0_off95 (k0_t1 : Fin k0_t1_loop.trips) : Fin 3 → Nat :=
  let c3_183 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v514 : Index := Scalar.indexCast v11
  let c1408_184 : Index := 1408#32
  ![3, v514.toNat, 1408]
def k0_off96 (k0_t1 : Fin k0_t1_loop.trips) : Fin 3 → Nat :=
  let c3_185 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v518 : Index := Scalar.indexCast v11
  let c11_186 : Index := 11#32
  ![3, v518.toNat, 11]
def k0_off97 (k0_t1 : Fin k0_t1_loop.trips) : Fin 3 → Nat :=
  let c0_188 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v528 : Index := Scalar.indexCast v11
  let c1536 : Index := 1536#32
  ![0, v528.toNat, 1536]
def k0_off98 (k0_t1 : Fin k0_t1_loop.trips) : Fin 3 → Nat :=
  let c0_189 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v532 : Index := Scalar.indexCast v11
  let c12 : Index := 12#32
  ![0, v532.toNat, 12]
def k0_off99 (k0_t1 : Fin k0_t1_loop.trips) : Fin 3 → Nat :=
  let c1_190 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v537 : Index := Scalar.indexCast v11
  let c1536_191 : Index := 1536#32
  ![1, v537.toNat, 1536]
def k0_off100 (k0_t1 : Fin k0_t1_loop.trips) : Fin 3 → Nat :=
  let c1_192 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v541 : Index := Scalar.indexCast v11
  let c12_193 : Index := 12#32
  ![1, v541.toNat, 12]
def k0_off101 (k0_t1 : Fin k0_t1_loop.trips) : Fin 3 → Nat :=
  let c2_194 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v547 : Index := Scalar.indexCast v11
  let c1536_195 : Index := 1536#32
  ![2, v547.toNat, 1536]
def k0_off102 (k0_t1 : Fin k0_t1_loop.trips) : Fin 3 → Nat :=
  let c2_196 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v551 : Index := Scalar.indexCast v11
  let c12_197 : Index := 12#32
  ![2, v551.toNat, 12]
def k0_off103 (k0_t1 : Fin k0_t1_loop.trips) : Fin 3 → Nat :=
  let c3_198 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v557 : Index := Scalar.indexCast v11
  let c1536_199 : Index := 1536#32
  ![3, v557.toNat, 1536]
def k0_off104 (k0_t1 : Fin k0_t1_loop.trips) : Fin 3 → Nat :=
  let c3_200 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v561 : Index := Scalar.indexCast v11
  let c12_201 : Index := 12#32
  ![3, v561.toNat, 12]
def k0_off105 (k0_t1 : Fin k0_t1_loop.trips) : Fin 3 → Nat :=
  let c0_203 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v571 : Index := Scalar.indexCast v11
  let c1664 : Index := 1664#32
  ![0, v571.toNat, 1664]
def k0_off106 (k0_t1 : Fin k0_t1_loop.trips) : Fin 3 → Nat :=
  let c0_204 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v575 : Index := Scalar.indexCast v11
  let c13 : Index := 13#32
  ![0, v575.toNat, 13]
def k0_off107 (k0_t1 : Fin k0_t1_loop.trips) : Fin 3 → Nat :=
  let c1_205 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v580 : Index := Scalar.indexCast v11
  let c1664_206 : Index := 1664#32
  ![1, v580.toNat, 1664]
def k0_off108 (k0_t1 : Fin k0_t1_loop.trips) : Fin 3 → Nat :=
  let c1_207 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v584 : Index := Scalar.indexCast v11
  let c13_208 : Index := 13#32
  ![1, v584.toNat, 13]
def k0_off109 (k0_t1 : Fin k0_t1_loop.trips) : Fin 3 → Nat :=
  let c2_209 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v590 : Index := Scalar.indexCast v11
  let c1664_210 : Index := 1664#32
  ![2, v590.toNat, 1664]
def k0_off110 (k0_t1 : Fin k0_t1_loop.trips) : Fin 3 → Nat :=
  let c2_211 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v594 : Index := Scalar.indexCast v11
  let c13_212 : Index := 13#32
  ![2, v594.toNat, 13]
def k0_off111 (k0_t1 : Fin k0_t1_loop.trips) : Fin 3 → Nat :=
  let c3_213 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v600 : Index := Scalar.indexCast v11
  let c1664_214 : Index := 1664#32
  ![3, v600.toNat, 1664]
def k0_off112 (k0_t1 : Fin k0_t1_loop.trips) : Fin 3 → Nat :=
  let c3_215 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v604 : Index := Scalar.indexCast v11
  let c13_216 : Index := 13#32
  ![3, v604.toNat, 13]
def k0_off113 (k0_t1 : Fin k0_t1_loop.trips) : Fin 3 → Nat :=
  let c0_218 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v614 : Index := Scalar.indexCast v11
  let c1792 : Index := 1792#32
  ![0, v614.toNat, 1792]
def k0_off114 (k0_t1 : Fin k0_t1_loop.trips) : Fin 3 → Nat :=
  let c0_219 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v618 : Index := Scalar.indexCast v11
  let c14 : Index := 14#32
  ![0, v618.toNat, 14]
def k0_off115 (k0_t1 : Fin k0_t1_loop.trips) : Fin 3 → Nat :=
  let c1_220 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v623 : Index := Scalar.indexCast v11
  let c1792_221 : Index := 1792#32
  ![1, v623.toNat, 1792]
def k0_off116 (k0_t1 : Fin k0_t1_loop.trips) : Fin 3 → Nat :=
  let c1_222 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v627 : Index := Scalar.indexCast v11
  let c14_223 : Index := 14#32
  ![1, v627.toNat, 14]
def k0_off117 (k0_t1 : Fin k0_t1_loop.trips) : Fin 3 → Nat :=
  let c2_224 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v633 : Index := Scalar.indexCast v11
  let c1792_225 : Index := 1792#32
  ![2, v633.toNat, 1792]
def k0_off118 (k0_t1 : Fin k0_t1_loop.trips) : Fin 3 → Nat :=
  let c2_226 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v637 : Index := Scalar.indexCast v11
  let c14_227 : Index := 14#32
  ![2, v637.toNat, 14]
def k0_off119 (k0_t1 : Fin k0_t1_loop.trips) : Fin 3 → Nat :=
  let c3_228 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v643 : Index := Scalar.indexCast v11
  let c1792_229 : Index := 1792#32
  ![3, v643.toNat, 1792]
def k0_off120 (k0_t1 : Fin k0_t1_loop.trips) : Fin 3 → Nat :=
  let c3_230 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v647 : Index := Scalar.indexCast v11
  let c14_231 : Index := 14#32
  ![3, v647.toNat, 14]
def k0_off121 (k0_t1 : Fin k0_t1_loop.trips) : Fin 3 → Nat :=
  let c0_233 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v657 : Index := Scalar.indexCast v11
  let c1920 : Index := 1920#32
  ![0, v657.toNat, 1920]
def k0_off122 (k0_t1 : Fin k0_t1_loop.trips) : Fin 3 → Nat :=
  let c0_234 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v661 : Index := Scalar.indexCast v11
  let c15 : Index := 15#32
  ![0, v661.toNat, 15]
def k0_off123 (k0_t1 : Fin k0_t1_loop.trips) : Fin 3 → Nat :=
  let c1_235 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v666 : Index := Scalar.indexCast v11
  let c1920_236 : Index := 1920#32
  ![1, v666.toNat, 1920]
def k0_off124 (k0_t1 : Fin k0_t1_loop.trips) : Fin 3 → Nat :=
  let c1_237 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v670 : Index := Scalar.indexCast v11
  let c15_238 : Index := 15#32
  ![1, v670.toNat, 15]
def k0_off125 (k0_t1 : Fin k0_t1_loop.trips) : Fin 3 → Nat :=
  let c2_239 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v676 : Index := Scalar.indexCast v11
  let c1920_240 : Index := 1920#32
  ![2, v676.toNat, 1920]
def k0_off126 (k0_t1 : Fin k0_t1_loop.trips) : Fin 3 → Nat :=
  let c2_241 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v680 : Index := Scalar.indexCast v11
  let c15_242 : Index := 15#32
  ![2, v680.toNat, 15]
def k0_off127 (k0_t1 : Fin k0_t1_loop.trips) : Fin 3 → Nat :=
  let c3_243 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v686 : Index := Scalar.indexCast v11
  let c1920_244 : Index := 1920#32
  ![3, v686.toNat, 1920]
def k0_off128 (k0_t1 : Fin k0_t1_loop.trips) : Fin 3 → Nat :=
  let c3_245 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v690 : Index := Scalar.indexCast v11
  let c15_246 : Index := 15#32
  ![3, v690.toNat, 15]
def k0_off129 (k0_t1 : Fin k0_t1_loop.trips) : Fin 3 → Nat :=
  let c0_248 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v700 : Index := Scalar.indexCast v11
  let c2048 : Index := 2048#32
  ![0, v700.toNat, 2048]
def k0_off130 (k0_t1 : Fin k0_t1_loop.trips) : Fin 3 → Nat :=
  let c0_249 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v704 : Index := Scalar.indexCast v11
  let c16 : Index := 16#32
  ![0, v704.toNat, 16]
def k0_off131 (k0_t1 : Fin k0_t1_loop.trips) : Fin 3 → Nat :=
  let c1_250 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v709 : Index := Scalar.indexCast v11
  let c2048_251 : Index := 2048#32
  ![1, v709.toNat, 2048]
def k0_off132 (k0_t1 : Fin k0_t1_loop.trips) : Fin 3 → Nat :=
  let c1_252 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v713 : Index := Scalar.indexCast v11
  let c16_253 : Index := 16#32
  ![1, v713.toNat, 16]
def k0_off133 (k0_t1 : Fin k0_t1_loop.trips) : Fin 3 → Nat :=
  let c2_254 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v719 : Index := Scalar.indexCast v11
  let c2048_255 : Index := 2048#32
  ![2, v719.toNat, 2048]
def k0_off134 (k0_t1 : Fin k0_t1_loop.trips) : Fin 3 → Nat :=
  let c2_256 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v723 : Index := Scalar.indexCast v11
  let c16_257 : Index := 16#32
  ![2, v723.toNat, 16]
def k0_off135 (k0_t1 : Fin k0_t1_loop.trips) : Fin 3 → Nat :=
  let c3_258 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v729 : Index := Scalar.indexCast v11
  let c2048_259 : Index := 2048#32
  ![3, v729.toNat, 2048]
def k0_off136 (k0_t1 : Fin k0_t1_loop.trips) : Fin 3 → Nat :=
  let c3_260 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v733 : Index := Scalar.indexCast v11
  let c16_261 : Index := 16#32
  ![3, v733.toNat, 16]
def k0_off137 (k0_t1 : Fin k0_t1_loop.trips) : Fin 3 → Nat :=
  let c0_263 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v743 : Index := Scalar.indexCast v11
  let c2176 : Index := 2176#32
  ![0, v743.toNat, 2176]
def k0_off138 (k0_t1 : Fin k0_t1_loop.trips) : Fin 3 → Nat :=
  let c0_264 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v747 : Index := Scalar.indexCast v11
  let c17 : Index := 17#32
  ![0, v747.toNat, 17]
def k0_off139 (k0_t1 : Fin k0_t1_loop.trips) : Fin 3 → Nat :=
  let c1_265 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v752 : Index := Scalar.indexCast v11
  let c2176_266 : Index := 2176#32
  ![1, v752.toNat, 2176]
def k0_off140 (k0_t1 : Fin k0_t1_loop.trips) : Fin 3 → Nat :=
  let c1_267 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v756 : Index := Scalar.indexCast v11
  let c17_268 : Index := 17#32
  ![1, v756.toNat, 17]
def k0_off141 (k0_t1 : Fin k0_t1_loop.trips) : Fin 3 → Nat :=
  let c2_269 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v762 : Index := Scalar.indexCast v11
  let c2176_270 : Index := 2176#32
  ![2, v762.toNat, 2176]
def k0_off142 (k0_t1 : Fin k0_t1_loop.trips) : Fin 3 → Nat :=
  let c2_271 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v766 : Index := Scalar.indexCast v11
  let c17_272 : Index := 17#32
  ![2, v766.toNat, 17]
def k0_off143 (k0_t1 : Fin k0_t1_loop.trips) : Fin 3 → Nat :=
  let c3_273 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v772 : Index := Scalar.indexCast v11
  let c2176_274 : Index := 2176#32
  ![3, v772.toNat, 2176]
def k0_off144 (k0_t1 : Fin k0_t1_loop.trips) : Fin 3 → Nat :=
  let c3_275 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v776 : Index := Scalar.indexCast v11
  let c17_276 : Index := 17#32
  ![3, v776.toNat, 17]
def k0_off145 (k0_t1 : Fin k0_t1_loop.trips) : Fin 3 → Nat :=
  let c0_278 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v786 : Index := Scalar.indexCast v11
  let c2304 : Index := 2304#32
  ![0, v786.toNat, 2304]
def k0_off146 (k0_t1 : Fin k0_t1_loop.trips) : Fin 3 → Nat :=
  let c0_279 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v790 : Index := Scalar.indexCast v11
  let c18 : Index := 18#32
  ![0, v790.toNat, 18]
def k0_off147 (k0_t1 : Fin k0_t1_loop.trips) : Fin 3 → Nat :=
  let c1_280 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v795 : Index := Scalar.indexCast v11
  let c2304_281 : Index := 2304#32
  ![1, v795.toNat, 2304]
def k0_off148 (k0_t1 : Fin k0_t1_loop.trips) : Fin 3 → Nat :=
  let c1_282 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v799 : Index := Scalar.indexCast v11
  let c18_283 : Index := 18#32
  ![1, v799.toNat, 18]
def k0_off149 (k0_t1 : Fin k0_t1_loop.trips) : Fin 3 → Nat :=
  let c2_284 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v805 : Index := Scalar.indexCast v11
  let c2304_285 : Index := 2304#32
  ![2, v805.toNat, 2304]
def k0_off150 (k0_t1 : Fin k0_t1_loop.trips) : Fin 3 → Nat :=
  let c2_286 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v809 : Index := Scalar.indexCast v11
  let c18_287 : Index := 18#32
  ![2, v809.toNat, 18]
def k0_off151 (k0_t1 : Fin k0_t1_loop.trips) : Fin 3 → Nat :=
  let c3_288 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v815 : Index := Scalar.indexCast v11
  let c2304_289 : Index := 2304#32
  ![3, v815.toNat, 2304]
def k0_off152 (k0_t1 : Fin k0_t1_loop.trips) : Fin 3 → Nat :=
  let c3_290 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v819 : Index := Scalar.indexCast v11
  let c18_291 : Index := 18#32
  ![3, v819.toNat, 18]
def k0_off153 (k0_t1 : Fin k0_t1_loop.trips) : Fin 3 → Nat :=
  let c0_293 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v829 : Index := Scalar.indexCast v11
  let c2432 : Index := 2432#32
  ![0, v829.toNat, 2432]
def k0_off154 (k0_t1 : Fin k0_t1_loop.trips) : Fin 3 → Nat :=
  let c0_294 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v833 : Index := Scalar.indexCast v11
  let c19 : Index := 19#32
  ![0, v833.toNat, 19]
def k0_off155 (k0_t1 : Fin k0_t1_loop.trips) : Fin 3 → Nat :=
  let c1_295 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v838 : Index := Scalar.indexCast v11
  let c2432_296 : Index := 2432#32
  ![1, v838.toNat, 2432]
def k0_off156 (k0_t1 : Fin k0_t1_loop.trips) : Fin 3 → Nat :=
  let c1_297 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v842 : Index := Scalar.indexCast v11
  let c19_298 : Index := 19#32
  ![1, v842.toNat, 19]
def k0_off157 (k0_t1 : Fin k0_t1_loop.trips) : Fin 3 → Nat :=
  let c2_299 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v848 : Index := Scalar.indexCast v11
  let c2432_300 : Index := 2432#32
  ![2, v848.toNat, 2432]
def k0_off158 (k0_t1 : Fin k0_t1_loop.trips) : Fin 3 → Nat :=
  let c2_301 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v852 : Index := Scalar.indexCast v11
  let c19_302 : Index := 19#32
  ![2, v852.toNat, 19]
def k0_off159 (k0_t1 : Fin k0_t1_loop.trips) : Fin 3 → Nat :=
  let c3_303 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v858 : Index := Scalar.indexCast v11
  let c2432_304 : Index := 2432#32
  ![3, v858.toNat, 2432]
def k0_off160 (k0_t1 : Fin k0_t1_loop.trips) : Fin 3 → Nat :=
  let c3_305 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v862 : Index := Scalar.indexCast v11
  let c19_306 : Index := 19#32
  ![3, v862.toNat, 19]
def k0_off161 (k0_t1 : Fin k0_t1_loop.trips) : Fin 3 → Nat :=
  let c0_308 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v872 : Index := Scalar.indexCast v11
  let c2560 : Index := 2560#32
  ![0, v872.toNat, 2560]
def k0_off162 (k0_t1 : Fin k0_t1_loop.trips) : Fin 3 → Nat :=
  let c0_309 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v876 : Index := Scalar.indexCast v11
  let c20 : Index := 20#32
  ![0, v876.toNat, 20]
def k0_off163 (k0_t1 : Fin k0_t1_loop.trips) : Fin 3 → Nat :=
  let c1_310 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v881 : Index := Scalar.indexCast v11
  let c2560_311 : Index := 2560#32
  ![1, v881.toNat, 2560]
def k0_off164 (k0_t1 : Fin k0_t1_loop.trips) : Fin 3 → Nat :=
  let c1_312 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v885 : Index := Scalar.indexCast v11
  let c20_313 : Index := 20#32
  ![1, v885.toNat, 20]
def k0_off165 (k0_t1 : Fin k0_t1_loop.trips) : Fin 3 → Nat :=
  let c2_314 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v891 : Index := Scalar.indexCast v11
  let c2560_315 : Index := 2560#32
  ![2, v891.toNat, 2560]
def k0_off166 (k0_t1 : Fin k0_t1_loop.trips) : Fin 3 → Nat :=
  let c2_316 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v895 : Index := Scalar.indexCast v11
  let c20_317 : Index := 20#32
  ![2, v895.toNat, 20]
def k0_off167 (k0_t1 : Fin k0_t1_loop.trips) : Fin 3 → Nat :=
  let c3_318 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v901 : Index := Scalar.indexCast v11
  let c2560_319 : Index := 2560#32
  ![3, v901.toNat, 2560]
def k0_off168 (k0_t1 : Fin k0_t1_loop.trips) : Fin 3 → Nat :=
  let c3_320 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v905 : Index := Scalar.indexCast v11
  let c20_321 : Index := 20#32
  ![3, v905.toNat, 20]
def k0_off169 (k0_t1 : Fin k0_t1_loop.trips) : Fin 3 → Nat :=
  let c0_323 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v915 : Index := Scalar.indexCast v11
  let c2688 : Index := 2688#32
  ![0, v915.toNat, 2688]
def k0_off170 (k0_t1 : Fin k0_t1_loop.trips) : Fin 3 → Nat :=
  let c0_324 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v919 : Index := Scalar.indexCast v11
  let c21 : Index := 21#32
  ![0, v919.toNat, 21]
def k0_off171 (k0_t1 : Fin k0_t1_loop.trips) : Fin 3 → Nat :=
  let c1_325 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v924 : Index := Scalar.indexCast v11
  let c2688_326 : Index := 2688#32
  ![1, v924.toNat, 2688]
def k0_off172 (k0_t1 : Fin k0_t1_loop.trips) : Fin 3 → Nat :=
  let c1_327 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v928 : Index := Scalar.indexCast v11
  let c21_328 : Index := 21#32
  ![1, v928.toNat, 21]
def k0_off173 (k0_t1 : Fin k0_t1_loop.trips) : Fin 3 → Nat :=
  let c2_329 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v934 : Index := Scalar.indexCast v11
  let c2688_330 : Index := 2688#32
  ![2, v934.toNat, 2688]
def k0_off174 (k0_t1 : Fin k0_t1_loop.trips) : Fin 3 → Nat :=
  let c2_331 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v938 : Index := Scalar.indexCast v11
  let c21_332 : Index := 21#32
  ![2, v938.toNat, 21]
def k0_off175 (k0_t1 : Fin k0_t1_loop.trips) : Fin 3 → Nat :=
  let c3_333 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v944 : Index := Scalar.indexCast v11
  let c2688_334 : Index := 2688#32
  ![3, v944.toNat, 2688]
def k0_off176 (k0_t1 : Fin k0_t1_loop.trips) : Fin 3 → Nat :=
  let c3_335 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v948 : Index := Scalar.indexCast v11
  let c21_336 : Index := 21#32
  ![3, v948.toNat, 21]
def k0_off177 (k0_t1 : Fin k0_t1_loop.trips) : Fin 3 → Nat :=
  let c0_338 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v958 : Index := Scalar.indexCast v11
  let c2816 : Index := 2816#32
  ![0, v958.toNat, 2816]
def k0_off178 (k0_t1 : Fin k0_t1_loop.trips) : Fin 3 → Nat :=
  let c0_339 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v962 : Index := Scalar.indexCast v11
  let c22 : Index := 22#32
  ![0, v962.toNat, 22]
def k0_off179 (k0_t1 : Fin k0_t1_loop.trips) : Fin 3 → Nat :=
  let c1_340 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v967 : Index := Scalar.indexCast v11
  let c2816_341 : Index := 2816#32
  ![1, v967.toNat, 2816]
def k0_off180 (k0_t1 : Fin k0_t1_loop.trips) : Fin 3 → Nat :=
  let c1_342 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v971 : Index := Scalar.indexCast v11
  let c22_343 : Index := 22#32
  ![1, v971.toNat, 22]
def k0_off181 (k0_t1 : Fin k0_t1_loop.trips) : Fin 3 → Nat :=
  let c2_344 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v977 : Index := Scalar.indexCast v11
  let c2816_345 : Index := 2816#32
  ![2, v977.toNat, 2816]
def k0_off182 (k0_t1 : Fin k0_t1_loop.trips) : Fin 3 → Nat :=
  let c2_346 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v981 : Index := Scalar.indexCast v11
  let c22_347 : Index := 22#32
  ![2, v981.toNat, 22]
def k0_off183 (k0_t1 : Fin k0_t1_loop.trips) : Fin 3 → Nat :=
  let c3_348 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v987 : Index := Scalar.indexCast v11
  let c2816_349 : Index := 2816#32
  ![3, v987.toNat, 2816]
def k0_off184 (k0_t1 : Fin k0_t1_loop.trips) : Fin 3 → Nat :=
  let c3_350 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v991 : Index := Scalar.indexCast v11
  let c22_351 : Index := 22#32
  ![3, v991.toNat, 22]
def k0_off185 (k0_t1 : Fin k0_t1_loop.trips) : Fin 3 → Nat :=
  let c0_353 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1001 : Index := Scalar.indexCast v11
  let c2944 : Index := 2944#32
  ![0, v1001.toNat, 2944]
def k0_off186 (k0_t1 : Fin k0_t1_loop.trips) : Fin 3 → Nat :=
  let c0_354 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1005 : Index := Scalar.indexCast v11
  let c23 : Index := 23#32
  ![0, v1005.toNat, 23]
def k0_off187 (k0_t1 : Fin k0_t1_loop.trips) : Fin 3 → Nat :=
  let c1_355 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1010 : Index := Scalar.indexCast v11
  let c2944_356 : Index := 2944#32
  ![1, v1010.toNat, 2944]
def k0_off188 (k0_t1 : Fin k0_t1_loop.trips) : Fin 3 → Nat :=
  let c1_357 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1014 : Index := Scalar.indexCast v11
  let c23_358 : Index := 23#32
  ![1, v1014.toNat, 23]
def k0_off189 (k0_t1 : Fin k0_t1_loop.trips) : Fin 3 → Nat :=
  let c2_359 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1020 : Index := Scalar.indexCast v11
  let c2944_360 : Index := 2944#32
  ![2, v1020.toNat, 2944]
def k0_off190 (k0_t1 : Fin k0_t1_loop.trips) : Fin 3 → Nat :=
  let c2_361 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1024 : Index := Scalar.indexCast v11
  let c23_362 : Index := 23#32
  ![2, v1024.toNat, 23]
def k0_off191 (k0_t1 : Fin k0_t1_loop.trips) : Fin 3 → Nat :=
  let c3_363 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1030 : Index := Scalar.indexCast v11
  let c2944_364 : Index := 2944#32
  ![3, v1030.toNat, 2944]
def k0_off192 (k0_t1 : Fin k0_t1_loop.trips) : Fin 3 → Nat :=
  let c3_365 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1034 : Index := Scalar.indexCast v11
  let c23_366 : Index := 23#32
  ![3, v1034.toNat, 23]
def k0_off193 (k0_t1 : Fin k0_t1_loop.trips) : Fin 3 → Nat :=
  let c0_368 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1044 : Index := Scalar.indexCast v11
  let c3072 : Index := 3072#32
  ![0, v1044.toNat, 3072]
def k0_off194 (k0_t1 : Fin k0_t1_loop.trips) : Fin 3 → Nat :=
  let c0_369 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1048 : Index := Scalar.indexCast v11
  let c24 : Index := 24#32
  ![0, v1048.toNat, 24]
def k0_off195 (k0_t1 : Fin k0_t1_loop.trips) : Fin 3 → Nat :=
  let c1_370 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1053 : Index := Scalar.indexCast v11
  let c3072_371 : Index := 3072#32
  ![1, v1053.toNat, 3072]
def k0_off196 (k0_t1 : Fin k0_t1_loop.trips) : Fin 3 → Nat :=
  let c1_372 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1057 : Index := Scalar.indexCast v11
  let c24_373 : Index := 24#32
  ![1, v1057.toNat, 24]
def k0_off197 (k0_t1 : Fin k0_t1_loop.trips) : Fin 3 → Nat :=
  let c2_374 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1063 : Index := Scalar.indexCast v11
  let c3072_375 : Index := 3072#32
  ![2, v1063.toNat, 3072]
def k0_off198 (k0_t1 : Fin k0_t1_loop.trips) : Fin 3 → Nat :=
  let c2_376 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1067 : Index := Scalar.indexCast v11
  let c24_377 : Index := 24#32
  ![2, v1067.toNat, 24]
def k0_off199 (k0_t1 : Fin k0_t1_loop.trips) : Fin 3 → Nat :=
  let c3_378 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1073 : Index := Scalar.indexCast v11
  let c3072_379 : Index := 3072#32
  ![3, v1073.toNat, 3072]
def k0_off200 (k0_t1 : Fin k0_t1_loop.trips) : Fin 3 → Nat :=
  let c3_380 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1077 : Index := Scalar.indexCast v11
  let c24_381 : Index := 24#32
  ![3, v1077.toNat, 24]
def k0_off201 (k0_t1 : Fin k0_t1_loop.trips) : Fin 3 → Nat :=
  let c0_383 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1087 : Index := Scalar.indexCast v11
  let c3200 : Index := 3200#32
  ![0, v1087.toNat, 3200]
def k0_off202 (k0_t1 : Fin k0_t1_loop.trips) : Fin 3 → Nat :=
  let c0_384 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1091 : Index := Scalar.indexCast v11
  let c25 : Index := 25#32
  ![0, v1091.toNat, 25]
def k0_off203 (k0_t1 : Fin k0_t1_loop.trips) : Fin 3 → Nat :=
  let c1_385 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1096 : Index := Scalar.indexCast v11
  let c3200_386 : Index := 3200#32
  ![1, v1096.toNat, 3200]
def k0_off204 (k0_t1 : Fin k0_t1_loop.trips) : Fin 3 → Nat :=
  let c1_387 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1100 : Index := Scalar.indexCast v11
  let c25_388 : Index := 25#32
  ![1, v1100.toNat, 25]
def k0_off205 (k0_t1 : Fin k0_t1_loop.trips) : Fin 3 → Nat :=
  let c2_389 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1106 : Index := Scalar.indexCast v11
  let c3200_390 : Index := 3200#32
  ![2, v1106.toNat, 3200]
def k0_off206 (k0_t1 : Fin k0_t1_loop.trips) : Fin 3 → Nat :=
  let c2_391 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1110 : Index := Scalar.indexCast v11
  let c25_392 : Index := 25#32
  ![2, v1110.toNat, 25]
def k0_off207 (k0_t1 : Fin k0_t1_loop.trips) : Fin 3 → Nat :=
  let c3_393 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1116 : Index := Scalar.indexCast v11
  let c3200_394 : Index := 3200#32
  ![3, v1116.toNat, 3200]
def k0_off208 (k0_t1 : Fin k0_t1_loop.trips) : Fin 3 → Nat :=
  let c3_395 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1120 : Index := Scalar.indexCast v11
  let c25_396 : Index := 25#32
  ![3, v1120.toNat, 25]
def k0_off209 (k0_t1 : Fin k0_t1_loop.trips) : Fin 3 → Nat :=
  let c0_398 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1130 : Index := Scalar.indexCast v11
  let c3328 : Index := 3328#32
  ![0, v1130.toNat, 3328]
def k0_off210 (k0_t1 : Fin k0_t1_loop.trips) : Fin 3 → Nat :=
  let c0_399 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1134 : Index := Scalar.indexCast v11
  let c26 : Index := 26#32
  ![0, v1134.toNat, 26]
def k0_off211 (k0_t1 : Fin k0_t1_loop.trips) : Fin 3 → Nat :=
  let c1_400 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1139 : Index := Scalar.indexCast v11
  let c3328_401 : Index := 3328#32
  ![1, v1139.toNat, 3328]
def k0_off212 (k0_t1 : Fin k0_t1_loop.trips) : Fin 3 → Nat :=
  let c1_402 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1143 : Index := Scalar.indexCast v11
  let c26_403 : Index := 26#32
  ![1, v1143.toNat, 26]
def k0_off213 (k0_t1 : Fin k0_t1_loop.trips) : Fin 3 → Nat :=
  let c2_404 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1149 : Index := Scalar.indexCast v11
  let c3328_405 : Index := 3328#32
  ![2, v1149.toNat, 3328]
def k0_off214 (k0_t1 : Fin k0_t1_loop.trips) : Fin 3 → Nat :=
  let c2_406 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1153 : Index := Scalar.indexCast v11
  let c26_407 : Index := 26#32
  ![2, v1153.toNat, 26]
def k0_off215 (k0_t1 : Fin k0_t1_loop.trips) : Fin 3 → Nat :=
  let c3_408 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1159 : Index := Scalar.indexCast v11
  let c3328_409 : Index := 3328#32
  ![3, v1159.toNat, 3328]
def k0_off216 (k0_t1 : Fin k0_t1_loop.trips) : Fin 3 → Nat :=
  let c3_410 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1163 : Index := Scalar.indexCast v11
  let c26_411 : Index := 26#32
  ![3, v1163.toNat, 26]
def k0_off217 (k0_t1 : Fin k0_t1_loop.trips) : Fin 3 → Nat :=
  let c0_413 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1173 : Index := Scalar.indexCast v11
  let c3456 : Index := 3456#32
  ![0, v1173.toNat, 3456]
def k0_off218 (k0_t1 : Fin k0_t1_loop.trips) : Fin 3 → Nat :=
  let c0_414 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1177 : Index := Scalar.indexCast v11
  let c27 : Index := 27#32
  ![0, v1177.toNat, 27]
def k0_off219 (k0_t1 : Fin k0_t1_loop.trips) : Fin 3 → Nat :=
  let c1_415 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1182 : Index := Scalar.indexCast v11
  let c3456_416 : Index := 3456#32
  ![1, v1182.toNat, 3456]
def k0_off220 (k0_t1 : Fin k0_t1_loop.trips) : Fin 3 → Nat :=
  let c1_417 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1186 : Index := Scalar.indexCast v11
  let c27_418 : Index := 27#32
  ![1, v1186.toNat, 27]
def k0_off221 (k0_t1 : Fin k0_t1_loop.trips) : Fin 3 → Nat :=
  let c2_419 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1192 : Index := Scalar.indexCast v11
  let c3456_420 : Index := 3456#32
  ![2, v1192.toNat, 3456]
def k0_off222 (k0_t1 : Fin k0_t1_loop.trips) : Fin 3 → Nat :=
  let c2_421 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1196 : Index := Scalar.indexCast v11
  let c27_422 : Index := 27#32
  ![2, v1196.toNat, 27]
def k0_off223 (k0_t1 : Fin k0_t1_loop.trips) : Fin 3 → Nat :=
  let c3_423 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1202 : Index := Scalar.indexCast v11
  let c3456_424 : Index := 3456#32
  ![3, v1202.toNat, 3456]
def k0_off224 (k0_t1 : Fin k0_t1_loop.trips) : Fin 3 → Nat :=
  let c3_425 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1206 : Index := Scalar.indexCast v11
  let c27_426 : Index := 27#32
  ![3, v1206.toNat, 27]
def k0_off225 (k0_t1 : Fin k0_t1_loop.trips) : Fin 3 → Nat :=
  let c0_428 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1216 : Index := Scalar.indexCast v11
  let c3584 : Index := 3584#32
  ![0, v1216.toNat, 3584]
def k0_off226 (k0_t1 : Fin k0_t1_loop.trips) : Fin 3 → Nat :=
  let c0_429 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1220 : Index := Scalar.indexCast v11
  let c28 : Index := 28#32
  ![0, v1220.toNat, 28]
def k0_off227 (k0_t1 : Fin k0_t1_loop.trips) : Fin 3 → Nat :=
  let c1_430 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1225 : Index := Scalar.indexCast v11
  let c3584_431 : Index := 3584#32
  ![1, v1225.toNat, 3584]
def k0_off228 (k0_t1 : Fin k0_t1_loop.trips) : Fin 3 → Nat :=
  let c1_432 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1229 : Index := Scalar.indexCast v11
  let c28_433 : Index := 28#32
  ![1, v1229.toNat, 28]
def k0_off229 (k0_t1 : Fin k0_t1_loop.trips) : Fin 3 → Nat :=
  let c2_434 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1235 : Index := Scalar.indexCast v11
  let c3584_435 : Index := 3584#32
  ![2, v1235.toNat, 3584]
def k0_off230 (k0_t1 : Fin k0_t1_loop.trips) : Fin 3 → Nat :=
  let c2_436 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1239 : Index := Scalar.indexCast v11
  let c28_437 : Index := 28#32
  ![2, v1239.toNat, 28]
def k0_off231 (k0_t1 : Fin k0_t1_loop.trips) : Fin 3 → Nat :=
  let c3_438 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1245 : Index := Scalar.indexCast v11
  let c3584_439 : Index := 3584#32
  ![3, v1245.toNat, 3584]
def k0_off232 (k0_t1 : Fin k0_t1_loop.trips) : Fin 3 → Nat :=
  let c3_440 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1249 : Index := Scalar.indexCast v11
  let c28_441 : Index := 28#32
  ![3, v1249.toNat, 28]
def k0_off233 (k0_t1 : Fin k0_t1_loop.trips) : Fin 3 → Nat :=
  let c0_443 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1259 : Index := Scalar.indexCast v11
  let c3712 : Index := 3712#32
  ![0, v1259.toNat, 3712]
def k0_off234 (k0_t1 : Fin k0_t1_loop.trips) : Fin 3 → Nat :=
  let c0_444 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1263 : Index := Scalar.indexCast v11
  let c29 : Index := 29#32
  ![0, v1263.toNat, 29]
def k0_off235 (k0_t1 : Fin k0_t1_loop.trips) : Fin 3 → Nat :=
  let c1_445 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1268 : Index := Scalar.indexCast v11
  let c3712_446 : Index := 3712#32
  ![1, v1268.toNat, 3712]
def k0_off236 (k0_t1 : Fin k0_t1_loop.trips) : Fin 3 → Nat :=
  let c1_447 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1272 : Index := Scalar.indexCast v11
  let c29_448 : Index := 29#32
  ![1, v1272.toNat, 29]
def k0_off237 (k0_t1 : Fin k0_t1_loop.trips) : Fin 3 → Nat :=
  let c2_449 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1278 : Index := Scalar.indexCast v11
  let c3712_450 : Index := 3712#32
  ![2, v1278.toNat, 3712]
def k0_off238 (k0_t1 : Fin k0_t1_loop.trips) : Fin 3 → Nat :=
  let c2_451 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1282 : Index := Scalar.indexCast v11
  let c29_452 : Index := 29#32
  ![2, v1282.toNat, 29]
def k0_off239 (k0_t1 : Fin k0_t1_loop.trips) : Fin 3 → Nat :=
  let c3_453 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1288 : Index := Scalar.indexCast v11
  let c3712_454 : Index := 3712#32
  ![3, v1288.toNat, 3712]
def k0_off240 (k0_t1 : Fin k0_t1_loop.trips) : Fin 3 → Nat :=
  let c3_455 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1292 : Index := Scalar.indexCast v11
  let c29_456 : Index := 29#32
  ![3, v1292.toNat, 29]
def k0_off241 (k0_t1 : Fin k0_t1_loop.trips) : Fin 3 → Nat :=
  let c0_458 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1302 : Index := Scalar.indexCast v11
  let c3840 : Index := 3840#32
  ![0, v1302.toNat, 3840]
def k0_off242 (k0_t1 : Fin k0_t1_loop.trips) : Fin 3 → Nat :=
  let c0_459 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1306 : Index := Scalar.indexCast v11
  let c30 : Index := 30#32
  ![0, v1306.toNat, 30]
def k0_off243 (k0_t1 : Fin k0_t1_loop.trips) : Fin 3 → Nat :=
  let c1_460 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1311 : Index := Scalar.indexCast v11
  let c3840_461 : Index := 3840#32
  ![1, v1311.toNat, 3840]
def k0_off244 (k0_t1 : Fin k0_t1_loop.trips) : Fin 3 → Nat :=
  let c1_462 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1315 : Index := Scalar.indexCast v11
  let c30_463 : Index := 30#32
  ![1, v1315.toNat, 30]
def k0_off245 (k0_t1 : Fin k0_t1_loop.trips) : Fin 3 → Nat :=
  let c2_464 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1321 : Index := Scalar.indexCast v11
  let c3840_465 : Index := 3840#32
  ![2, v1321.toNat, 3840]
def k0_off246 (k0_t1 : Fin k0_t1_loop.trips) : Fin 3 → Nat :=
  let c2_466 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1325 : Index := Scalar.indexCast v11
  let c30_467 : Index := 30#32
  ![2, v1325.toNat, 30]
def k0_off247 (k0_t1 : Fin k0_t1_loop.trips) : Fin 3 → Nat :=
  let c3_468 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1331 : Index := Scalar.indexCast v11
  let c3840_469 : Index := 3840#32
  ![3, v1331.toNat, 3840]
def k0_off248 (k0_t1 : Fin k0_t1_loop.trips) : Fin 3 → Nat :=
  let c3_470 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1335 : Index := Scalar.indexCast v11
  let c30_471 : Index := 30#32
  ![3, v1335.toNat, 30]
def k0_off249 (k0_t1 : Fin k0_t1_loop.trips) : Fin 3 → Nat :=
  let c0_473 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1345 : Index := Scalar.indexCast v11
  let c3968 : Index := 3968#32
  ![0, v1345.toNat, 3968]
def k0_off250 (k0_t1 : Fin k0_t1_loop.trips) : Fin 3 → Nat :=
  let c0_474 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1349 : Index := Scalar.indexCast v11
  let c31 : Index := 31#32
  ![0, v1349.toNat, 31]
def k0_off251 (k0_t1 : Fin k0_t1_loop.trips) : Fin 3 → Nat :=
  let c1_475 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1354 : Index := Scalar.indexCast v11
  let c3968_476 : Index := 3968#32
  ![1, v1354.toNat, 3968]
def k0_off252 (k0_t1 : Fin k0_t1_loop.trips) : Fin 3 → Nat :=
  let c1_477 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1358 : Index := Scalar.indexCast v11
  let c31_478 : Index := 31#32
  ![1, v1358.toNat, 31]
def k0_off253 (k0_t1 : Fin k0_t1_loop.trips) : Fin 3 → Nat :=
  let c2_479 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1364 : Index := Scalar.indexCast v11
  let c3968_480 : Index := 3968#32
  ![2, v1364.toNat, 3968]
def k0_off254 (k0_t1 : Fin k0_t1_loop.trips) : Fin 3 → Nat :=
  let c2_481 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1368 : Index := Scalar.indexCast v11
  let c31_482 : Index := 31#32
  ![2, v1368.toNat, 31]
def k0_off255 (k0_t1 : Fin k0_t1_loop.trips) : Fin 3 → Nat :=
  let c3_483 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1374 : Index := Scalar.indexCast v11
  let c3968_484 : Index := 3968#32
  ![3, v1374.toNat, 3968]
def k0_off256 (k0_t1 : Fin k0_t1_loop.trips) : Fin 3 → Nat :=
  let c3_485 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1378 : Index := Scalar.indexCast v11
  let c31_486 : Index := 31#32
  ![3, v1378.toNat, 31]
def k0_off257 (k0_t1 : Fin k0_t1_loop.trips) : Fin 3 → Nat :=
  let c0_488 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1388 : Index := Scalar.indexCast v11
  let c4096 : Index := 4096#32
  ![0, v1388.toNat, 4096]
def k0_off258 (k0_t1 : Fin k0_t1_loop.trips) : Fin 3 → Nat :=
  let c0_489 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1392 : Index := Scalar.indexCast v11
  let c32 : Index := 32#32
  ![0, v1392.toNat, 32]
def k0_off259 (k0_t1 : Fin k0_t1_loop.trips) : Fin 3 → Nat :=
  let c1_490 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1397 : Index := Scalar.indexCast v11
  let c4096_491 : Index := 4096#32
  ![1, v1397.toNat, 4096]
def k0_off260 (k0_t1 : Fin k0_t1_loop.trips) : Fin 3 → Nat :=
  let c1_492 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1401 : Index := Scalar.indexCast v11
  let c32_493 : Index := 32#32
  ![1, v1401.toNat, 32]
def k0_off261 (k0_t1 : Fin k0_t1_loop.trips) : Fin 3 → Nat :=
  let c2_494 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1407 : Index := Scalar.indexCast v11
  let c4096_495 : Index := 4096#32
  ![2, v1407.toNat, 4096]
def k0_off262 (k0_t1 : Fin k0_t1_loop.trips) : Fin 3 → Nat :=
  let c2_496 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1411 : Index := Scalar.indexCast v11
  let c32_497 : Index := 32#32
  ![2, v1411.toNat, 32]
def k0_off263 (k0_t1 : Fin k0_t1_loop.trips) : Fin 3 → Nat :=
  let c3_498 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1417 : Index := Scalar.indexCast v11
  let c4096_499 : Index := 4096#32
  ![3, v1417.toNat, 4096]
def k0_off264 (k0_t1 : Fin k0_t1_loop.trips) : Fin 3 → Nat :=
  let c3_500 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1421 : Index := Scalar.indexCast v11
  let c32_501 : Index := 32#32
  ![3, v1421.toNat, 32]
def k0_off265 (k0_t1 : Fin k0_t1_loop.trips) : Fin 3 → Nat :=
  let c0_503 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1431 : Index := Scalar.indexCast v11
  let c4224 : Index := 4224#32
  ![0, v1431.toNat, 4224]
def k0_off266 (k0_t1 : Fin k0_t1_loop.trips) : Fin 3 → Nat :=
  let c0_504 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1435 : Index := Scalar.indexCast v11
  let c33 : Index := 33#32
  ![0, v1435.toNat, 33]
def k0_off267 (k0_t1 : Fin k0_t1_loop.trips) : Fin 3 → Nat :=
  let c1_505 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1440 : Index := Scalar.indexCast v11
  let c4224_506 : Index := 4224#32
  ![1, v1440.toNat, 4224]
def k0_off268 (k0_t1 : Fin k0_t1_loop.trips) : Fin 3 → Nat :=
  let c1_507 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1444 : Index := Scalar.indexCast v11
  let c33_508 : Index := 33#32
  ![1, v1444.toNat, 33]
def k0_off269 (k0_t1 : Fin k0_t1_loop.trips) : Fin 3 → Nat :=
  let c2_509 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1450 : Index := Scalar.indexCast v11
  let c4224_510 : Index := 4224#32
  ![2, v1450.toNat, 4224]
def k0_off270 (k0_t1 : Fin k0_t1_loop.trips) : Fin 3 → Nat :=
  let c2_511 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1454 : Index := Scalar.indexCast v11
  let c33_512 : Index := 33#32
  ![2, v1454.toNat, 33]
def k0_off271 (k0_t1 : Fin k0_t1_loop.trips) : Fin 3 → Nat :=
  let c3_513 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1460 : Index := Scalar.indexCast v11
  let c4224_514 : Index := 4224#32
  ![3, v1460.toNat, 4224]
def k0_off272 (k0_t1 : Fin k0_t1_loop.trips) : Fin 3 → Nat :=
  let c3_515 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1464 : Index := Scalar.indexCast v11
  let c33_516 : Index := 33#32
  ![3, v1464.toNat, 33]
def k0_off273 (k0_t1 : Fin k0_t1_loop.trips) : Fin 3 → Nat :=
  let c0_518 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1474 : Index := Scalar.indexCast v11
  let c4352 : Index := 4352#32
  ![0, v1474.toNat, 4352]
def k0_off274 (k0_t1 : Fin k0_t1_loop.trips) : Fin 3 → Nat :=
  let c0_519 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1478 : Index := Scalar.indexCast v11
  let c34 : Index := 34#32
  ![0, v1478.toNat, 34]
def k0_off275 (k0_t1 : Fin k0_t1_loop.trips) : Fin 3 → Nat :=
  let c1_520 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1483 : Index := Scalar.indexCast v11
  let c4352_521 : Index := 4352#32
  ![1, v1483.toNat, 4352]
def k0_off276 (k0_t1 : Fin k0_t1_loop.trips) : Fin 3 → Nat :=
  let c1_522 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1487 : Index := Scalar.indexCast v11
  let c34_523 : Index := 34#32
  ![1, v1487.toNat, 34]
def k0_off277 (k0_t1 : Fin k0_t1_loop.trips) : Fin 3 → Nat :=
  let c2_524 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1493 : Index := Scalar.indexCast v11
  let c4352_525 : Index := 4352#32
  ![2, v1493.toNat, 4352]
def k0_off278 (k0_t1 : Fin k0_t1_loop.trips) : Fin 3 → Nat :=
  let c2_526 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1497 : Index := Scalar.indexCast v11
  let c34_527 : Index := 34#32
  ![2, v1497.toNat, 34]
def k0_off279 (k0_t1 : Fin k0_t1_loop.trips) : Fin 3 → Nat :=
  let c3_528 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1503 : Index := Scalar.indexCast v11
  let c4352_529 : Index := 4352#32
  ![3, v1503.toNat, 4352]
def k0_off280 (k0_t1 : Fin k0_t1_loop.trips) : Fin 3 → Nat :=
  let c3_530 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1507 : Index := Scalar.indexCast v11
  let c34_531 : Index := 34#32
  ![3, v1507.toNat, 34]
def k0_off281 (k0_t1 : Fin k0_t1_loop.trips) : Fin 3 → Nat :=
  let c0_533 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1517 : Index := Scalar.indexCast v11
  let c4480 : Index := 4480#32
  ![0, v1517.toNat, 4480]
def k0_off282 (k0_t1 : Fin k0_t1_loop.trips) : Fin 3 → Nat :=
  let c0_534 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1521 : Index := Scalar.indexCast v11
  let c35 : Index := 35#32
  ![0, v1521.toNat, 35]
def k0_off283 (k0_t1 : Fin k0_t1_loop.trips) : Fin 3 → Nat :=
  let c1_535 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1526 : Index := Scalar.indexCast v11
  let c4480_536 : Index := 4480#32
  ![1, v1526.toNat, 4480]
def k0_off284 (k0_t1 : Fin k0_t1_loop.trips) : Fin 3 → Nat :=
  let c1_537 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1530 : Index := Scalar.indexCast v11
  let c35_538 : Index := 35#32
  ![1, v1530.toNat, 35]
def k0_off285 (k0_t1 : Fin k0_t1_loop.trips) : Fin 3 → Nat :=
  let c2_539 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1536 : Index := Scalar.indexCast v11
  let c4480_540 : Index := 4480#32
  ![2, v1536.toNat, 4480]
def k0_off286 (k0_t1 : Fin k0_t1_loop.trips) : Fin 3 → Nat :=
  let c2_541 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1540 : Index := Scalar.indexCast v11
  let c35_542 : Index := 35#32
  ![2, v1540.toNat, 35]
def k0_off287 (k0_t1 : Fin k0_t1_loop.trips) : Fin 3 → Nat :=
  let c3_543 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1546 : Index := Scalar.indexCast v11
  let c4480_544 : Index := 4480#32
  ![3, v1546.toNat, 4480]
def k0_off288 (k0_t1 : Fin k0_t1_loop.trips) : Fin 3 → Nat :=
  let c3_545 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1550 : Index := Scalar.indexCast v11
  let c35_546 : Index := 35#32
  ![3, v1550.toNat, 35]
def k0_off289 (k0_t1 : Fin k0_t1_loop.trips) : Fin 3 → Nat :=
  let c0_548 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1560 : Index := Scalar.indexCast v11
  let c4608 : Index := 4608#32
  ![0, v1560.toNat, 4608]
def k0_off290 (k0_t1 : Fin k0_t1_loop.trips) : Fin 3 → Nat :=
  let c0_549 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1564 : Index := Scalar.indexCast v11
  let c36 : Index := 36#32
  ![0, v1564.toNat, 36]
def k0_off291 (k0_t1 : Fin k0_t1_loop.trips) : Fin 3 → Nat :=
  let c1_550 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1569 : Index := Scalar.indexCast v11
  let c4608_551 : Index := 4608#32
  ![1, v1569.toNat, 4608]
def k0_off292 (k0_t1 : Fin k0_t1_loop.trips) : Fin 3 → Nat :=
  let c1_552 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1573 : Index := Scalar.indexCast v11
  let c36_553 : Index := 36#32
  ![1, v1573.toNat, 36]
def k0_off293 (k0_t1 : Fin k0_t1_loop.trips) : Fin 3 → Nat :=
  let c2_554 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1579 : Index := Scalar.indexCast v11
  let c4608_555 : Index := 4608#32
  ![2, v1579.toNat, 4608]
def k0_off294 (k0_t1 : Fin k0_t1_loop.trips) : Fin 3 → Nat :=
  let c2_556 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1583 : Index := Scalar.indexCast v11
  let c36_557 : Index := 36#32
  ![2, v1583.toNat, 36]
def k0_off295 (k0_t1 : Fin k0_t1_loop.trips) : Fin 3 → Nat :=
  let c3_558 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1589 : Index := Scalar.indexCast v11
  let c4608_559 : Index := 4608#32
  ![3, v1589.toNat, 4608]
def k0_off296 (k0_t1 : Fin k0_t1_loop.trips) : Fin 3 → Nat :=
  let c3_560 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1593 : Index := Scalar.indexCast v11
  let c36_561 : Index := 36#32
  ![3, v1593.toNat, 36]
def k0_off297 (k0_t1 : Fin k0_t1_loop.trips) : Fin 3 → Nat :=
  let c0_563 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1603 : Index := Scalar.indexCast v11
  let c4736 : Index := 4736#32
  ![0, v1603.toNat, 4736]
def k0_off298 (k0_t1 : Fin k0_t1_loop.trips) : Fin 3 → Nat :=
  let c0_564 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1607 : Index := Scalar.indexCast v11
  let c37 : Index := 37#32
  ![0, v1607.toNat, 37]
def k0_off299 (k0_t1 : Fin k0_t1_loop.trips) : Fin 3 → Nat :=
  let c1_565 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1612 : Index := Scalar.indexCast v11
  let c4736_566 : Index := 4736#32
  ![1, v1612.toNat, 4736]
def k0_off300 (k0_t1 : Fin k0_t1_loop.trips) : Fin 3 → Nat :=
  let c1_567 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1616 : Index := Scalar.indexCast v11
  let c37_568 : Index := 37#32
  ![1, v1616.toNat, 37]
def k0_off301 (k0_t1 : Fin k0_t1_loop.trips) : Fin 3 → Nat :=
  let c2_569 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1622 : Index := Scalar.indexCast v11
  let c4736_570 : Index := 4736#32
  ![2, v1622.toNat, 4736]
def k0_off302 (k0_t1 : Fin k0_t1_loop.trips) : Fin 3 → Nat :=
  let c2_571 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1626 : Index := Scalar.indexCast v11
  let c37_572 : Index := 37#32
  ![2, v1626.toNat, 37]
def k0_off303 (k0_t1 : Fin k0_t1_loop.trips) : Fin 3 → Nat :=
  let c3_573 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1632 : Index := Scalar.indexCast v11
  let c4736_574 : Index := 4736#32
  ![3, v1632.toNat, 4736]
def k0_off304 (k0_t1 : Fin k0_t1_loop.trips) : Fin 3 → Nat :=
  let c3_575 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1636 : Index := Scalar.indexCast v11
  let c37_576 : Index := 37#32
  ![3, v1636.toNat, 37]
def k0_off305 (k0_t1 : Fin k0_t1_loop.trips) : Fin 3 → Nat :=
  let c0_578 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1646 : Index := Scalar.indexCast v11
  let c4864 : Index := 4864#32
  ![0, v1646.toNat, 4864]
def k0_off306 (k0_t1 : Fin k0_t1_loop.trips) : Fin 3 → Nat :=
  let c0_579 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1650 : Index := Scalar.indexCast v11
  let c38 : Index := 38#32
  ![0, v1650.toNat, 38]
def k0_off307 (k0_t1 : Fin k0_t1_loop.trips) : Fin 3 → Nat :=
  let c1_580 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1655 : Index := Scalar.indexCast v11
  let c4864_581 : Index := 4864#32
  ![1, v1655.toNat, 4864]
def k0_off308 (k0_t1 : Fin k0_t1_loop.trips) : Fin 3 → Nat :=
  let c1_582 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1659 : Index := Scalar.indexCast v11
  let c38_583 : Index := 38#32
  ![1, v1659.toNat, 38]
def k0_off309 (k0_t1 : Fin k0_t1_loop.trips) : Fin 3 → Nat :=
  let c2_584 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1665 : Index := Scalar.indexCast v11
  let c4864_585 : Index := 4864#32
  ![2, v1665.toNat, 4864]
def k0_off310 (k0_t1 : Fin k0_t1_loop.trips) : Fin 3 → Nat :=
  let c2_586 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1669 : Index := Scalar.indexCast v11
  let c38_587 : Index := 38#32
  ![2, v1669.toNat, 38]
def k0_off311 (k0_t1 : Fin k0_t1_loop.trips) : Fin 3 → Nat :=
  let c3_588 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1675 : Index := Scalar.indexCast v11
  let c4864_589 : Index := 4864#32
  ![3, v1675.toNat, 4864]
def k0_off312 (k0_t1 : Fin k0_t1_loop.trips) : Fin 3 → Nat :=
  let c3_590 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1679 : Index := Scalar.indexCast v11
  let c38_591 : Index := 38#32
  ![3, v1679.toNat, 38]
def k0_off313 (k0_t1 : Fin k0_t1_loop.trips) : Fin 3 → Nat :=
  let c0_593 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1689 : Index := Scalar.indexCast v11
  let c4992 : Index := 4992#32
  ![0, v1689.toNat, 4992]
def k0_off314 (k0_t1 : Fin k0_t1_loop.trips) : Fin 3 → Nat :=
  let c0_594 : Index := 0#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1693 : Index := Scalar.indexCast v11
  let c39 : Index := 39#32
  ![0, v1693.toNat, 39]
def k0_off315 (k0_t1 : Fin k0_t1_loop.trips) : Fin 3 → Nat :=
  let c1_595 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1698 : Index := Scalar.indexCast v11
  let c4992_596 : Index := 4992#32
  ![1, v1698.toNat, 4992]
def k0_off316 (k0_t1 : Fin k0_t1_loop.trips) : Fin 3 → Nat :=
  let c1_597 : Index := 1#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1702 : Index := Scalar.indexCast v11
  let c39_598 : Index := 39#32
  ![1, v1702.toNat, 39]
def k0_off317 (k0_t1 : Fin k0_t1_loop.trips) : Fin 3 → Nat :=
  let c2_599 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1708 : Index := Scalar.indexCast v11
  let c4992_600 : Index := 4992#32
  ![2, v1708.toNat, 4992]
def k0_off318 (k0_t1 : Fin k0_t1_loop.trips) : Fin 3 → Nat :=
  let c2_601 : Index := 2#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1712 : Index := Scalar.indexCast v11
  let c39_602 : Index := 39#32
  ![2, v1712.toNat, 39]
def k0_off319 (k0_t1 : Fin k0_t1_loop.trips) : Fin 3 → Nat :=
  let c3_603 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1718 : Index := Scalar.indexCast v11
  let c4992_604 : Index := 4992#32
  ![3, v1718.toNat, 4992]
def k0_off320 (k0_t1 : Fin k0_t1_loop.trips) : Fin 3 → Nat :=
  let c3_605 : Index := 3#32
  let c0_i32_2 : BitVec 32 := 0#32
  let c1_i32 : BitVec 32 := 1#32
  let arg4 : BitVec 32 := Scf.iv c0_i32_2 c1_i32 k0_t1
  let c32_i32 : BitVec 32 := 32#32
  let v10 : BitVec 32 := Scalar.muli arg4 c32_i32
  let v11 : BitVec 32 := v10
  let v1722 : Index := Scalar.indexCast v11
  let c39_606 : Index := 39#32
  ![3, v1722.toNat, 39]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x128x5120 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x40 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![128], ![false]⟩

@[reducible] def k1_t1_loop : Scf.Loop 32 :=
  let c0_i32 : BitVec 32 := 0#32
  let c2_i32 : BitVec 32 := 2#32
  let v25 : BitVec 32 := Scalar.addi c0_i32 c2_i32
  let c1_i32 : BitVec 32 := 1#32
  ⟨c0_i32, v25, c1_i32⟩
def k1_mult1 (k1_t1 : Fin k1_t1_loop.trips) : BitVec 32 :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  v26
def k1_off1 (k1_t1 : Fin k1_t1_loop.trips) : Fin 3 → Nat :=
  let c0_9 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v28 : Index := Scalar.indexCast v27
  let c0_10 : Index := 0#32
  ![0, v28.toNat, 0]
def k1_off2 (k1_t1 : Fin k1_t1_loop.trips) : Fin 3 → Nat :=
  let c0_11 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v32 : Index := Scalar.indexCast v27
  let c0_12 : Index := 0#32
  ![0, v32.toNat, 0]
def k1_off3 (k1_t1 : Fin k1_t1_loop.trips) : Fin 3 → Nat :=
  let c1 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v37 : Index := Scalar.indexCast v27
  let c0_13 : Index := 0#32
  ![1, v37.toNat, 0]
def k1_off4 (k1_t1 : Fin k1_t1_loop.trips) : Fin 3 → Nat :=
  let c1_14 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v41 : Index := Scalar.indexCast v27
  let c0_15 : Index := 0#32
  ![1, v41.toNat, 0]
def k1_off5 (k1_t1 : Fin k1_t1_loop.trips) : Fin 3 → Nat :=
  let c2 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v47 : Index := Scalar.indexCast v27
  let c0_16 : Index := 0#32
  ![2, v47.toNat, 0]
def k1_off6 (k1_t1 : Fin k1_t1_loop.trips) : Fin 3 → Nat :=
  let c2_17 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v51 : Index := Scalar.indexCast v27
  let c0_18 : Index := 0#32
  ![2, v51.toNat, 0]
def k1_off7 (k1_t1 : Fin k1_t1_loop.trips) : Fin 3 → Nat :=
  let c3 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v57 : Index := Scalar.indexCast v27
  let c0_19 : Index := 0#32
  ![3, v57.toNat, 0]
def k1_off8 (k1_t1 : Fin k1_t1_loop.trips) : Fin 3 → Nat :=
  let c3_20 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v61 : Index := Scalar.indexCast v27
  let c0_21 : Index := 0#32
  ![3, v61.toNat, 0]
def k1_off9 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v69 : Index := Scalar.indexCast v27
  let c0_22 : Index := 0#32
  ![v69.toNat, 0]
def k1_off10 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v207 : Index := Scalar.indexCast v27
  let c0_65 : Index := 0#32
  ![v207.toNat, 0]
def k1_off11 (k1_t1 : Fin k1_t1_loop.trips) : Fin 3 → Nat :=
  let c0_69 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v218 : Index := Scalar.indexCast v27
  let c128 : Index := 128#32
  ![0, v218.toNat, 128]
def k1_off12 (k1_t1 : Fin k1_t1_loop.trips) : Fin 3 → Nat :=
  let c0_70 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v222 : Index := Scalar.indexCast v27
  let c1_71 : Index := 1#32
  ![0, v222.toNat, 1]
def k1_off13 (k1_t1 : Fin k1_t1_loop.trips) : Fin 3 → Nat :=
  let c1_72 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v227 : Index := Scalar.indexCast v27
  let c128_73 : Index := 128#32
  ![1, v227.toNat, 128]
def k1_off14 (k1_t1 : Fin k1_t1_loop.trips) : Fin 3 → Nat :=
  let c1_74 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v231 : Index := Scalar.indexCast v27
  let c1_75 : Index := 1#32
  ![1, v231.toNat, 1]
def k1_off15 (k1_t1 : Fin k1_t1_loop.trips) : Fin 3 → Nat :=
  let c2_76 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v237 : Index := Scalar.indexCast v27
  let c128_77 : Index := 128#32
  ![2, v237.toNat, 128]
def k1_off16 (k1_t1 : Fin k1_t1_loop.trips) : Fin 3 → Nat :=
  let c2_78 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v241 : Index := Scalar.indexCast v27
  let c1_79 : Index := 1#32
  ![2, v241.toNat, 1]
def k1_off17 (k1_t1 : Fin k1_t1_loop.trips) : Fin 3 → Nat :=
  let c3_80 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v247 : Index := Scalar.indexCast v27
  let c128_81 : Index := 128#32
  ![3, v247.toNat, 128]
def k1_off18 (k1_t1 : Fin k1_t1_loop.trips) : Fin 3 → Nat :=
  let c3_82 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v251 : Index := Scalar.indexCast v27
  let c1_83 : Index := 1#32
  ![3, v251.toNat, 1]
def k1_off19 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v259 : Index := Scalar.indexCast v27
  let c128_84 : Index := 128#32
  ![v259.toNat, 128]
def k1_off20 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v397 : Index := Scalar.indexCast v27
  let c1_136 : Index := 1#32
  ![v397.toNat, 1]
def k1_off21 (k1_t1 : Fin k1_t1_loop.trips) : Fin 3 → Nat :=
  let c0_140 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v408 : Index := Scalar.indexCast v27
  let c256 : Index := 256#32
  ![0, v408.toNat, 256]
def k1_off22 (k1_t1 : Fin k1_t1_loop.trips) : Fin 3 → Nat :=
  let c0_141 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v412 : Index := Scalar.indexCast v27
  let c2_142 : Index := 2#32
  ![0, v412.toNat, 2]
def k1_off23 (k1_t1 : Fin k1_t1_loop.trips) : Fin 3 → Nat :=
  let c1_143 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v417 : Index := Scalar.indexCast v27
  let c256_144 : Index := 256#32
  ![1, v417.toNat, 256]
def k1_off24 (k1_t1 : Fin k1_t1_loop.trips) : Fin 3 → Nat :=
  let c1_145 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v421 : Index := Scalar.indexCast v27
  let c2_146 : Index := 2#32
  ![1, v421.toNat, 2]
def k1_off25 (k1_t1 : Fin k1_t1_loop.trips) : Fin 3 → Nat :=
  let c2_147 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v427 : Index := Scalar.indexCast v27
  let c256_148 : Index := 256#32
  ![2, v427.toNat, 256]
def k1_off26 (k1_t1 : Fin k1_t1_loop.trips) : Fin 3 → Nat :=
  let c2_149 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v431 : Index := Scalar.indexCast v27
  let c2_150 : Index := 2#32
  ![2, v431.toNat, 2]
def k1_off27 (k1_t1 : Fin k1_t1_loop.trips) : Fin 3 → Nat :=
  let c3_151 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v437 : Index := Scalar.indexCast v27
  let c256_152 : Index := 256#32
  ![3, v437.toNat, 256]
def k1_off28 (k1_t1 : Fin k1_t1_loop.trips) : Fin 3 → Nat :=
  let c3_153 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v441 : Index := Scalar.indexCast v27
  let c2_154 : Index := 2#32
  ![3, v441.toNat, 2]
def k1_off29 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v449 : Index := Scalar.indexCast v27
  let c256_155 : Index := 256#32
  ![v449.toNat, 256]
def k1_off30 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v587 : Index := Scalar.indexCast v27
  let c2_207 : Index := 2#32
  ![v587.toNat, 2]
def k1_off31 (k1_t1 : Fin k1_t1_loop.trips) : Fin 3 → Nat :=
  let c0_211 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v598 : Index := Scalar.indexCast v27
  let c384 : Index := 384#32
  ![0, v598.toNat, 384]
def k1_off32 (k1_t1 : Fin k1_t1_loop.trips) : Fin 3 → Nat :=
  let c0_212 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v602 : Index := Scalar.indexCast v27
  let c3_213 : Index := 3#32
  ![0, v602.toNat, 3]
def k1_off33 (k1_t1 : Fin k1_t1_loop.trips) : Fin 3 → Nat :=
  let c1_214 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v607 : Index := Scalar.indexCast v27
  let c384_215 : Index := 384#32
  ![1, v607.toNat, 384]
def k1_off34 (k1_t1 : Fin k1_t1_loop.trips) : Fin 3 → Nat :=
  let c1_216 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v611 : Index := Scalar.indexCast v27
  let c3_217 : Index := 3#32
  ![1, v611.toNat, 3]
def k1_off35 (k1_t1 : Fin k1_t1_loop.trips) : Fin 3 → Nat :=
  let c2_218 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v617 : Index := Scalar.indexCast v27
  let c384_219 : Index := 384#32
  ![2, v617.toNat, 384]
def k1_off36 (k1_t1 : Fin k1_t1_loop.trips) : Fin 3 → Nat :=
  let c2_220 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v621 : Index := Scalar.indexCast v27
  let c3_221 : Index := 3#32
  ![2, v621.toNat, 3]
def k1_off37 (k1_t1 : Fin k1_t1_loop.trips) : Fin 3 → Nat :=
  let c3_222 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v627 : Index := Scalar.indexCast v27
  let c384_223 : Index := 384#32
  ![3, v627.toNat, 384]
def k1_off38 (k1_t1 : Fin k1_t1_loop.trips) : Fin 3 → Nat :=
  let c3_224 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v631 : Index := Scalar.indexCast v27
  let c3_225 : Index := 3#32
  ![3, v631.toNat, 3]
def k1_off39 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v639 : Index := Scalar.indexCast v27
  let c384_226 : Index := 384#32
  ![v639.toNat, 384]
def k1_off40 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v777 : Index := Scalar.indexCast v27
  let c3_278 : Index := 3#32
  ![v777.toNat, 3]
def k1_off41 (k1_t1 : Fin k1_t1_loop.trips) : Fin 3 → Nat :=
  let c0_282 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v788 : Index := Scalar.indexCast v27
  let c512 : Index := 512#32
  ![0, v788.toNat, 512]
def k1_off42 (k1_t1 : Fin k1_t1_loop.trips) : Fin 3 → Nat :=
  let c0_283 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v792 : Index := Scalar.indexCast v27
  let c4 : Index := 4#32
  ![0, v792.toNat, 4]
def k1_off43 (k1_t1 : Fin k1_t1_loop.trips) : Fin 3 → Nat :=
  let c1_284 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v797 : Index := Scalar.indexCast v27
  let c512_285 : Index := 512#32
  ![1, v797.toNat, 512]
def k1_off44 (k1_t1 : Fin k1_t1_loop.trips) : Fin 3 → Nat :=
  let c1_286 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v801 : Index := Scalar.indexCast v27
  let c4_287 : Index := 4#32
  ![1, v801.toNat, 4]
def k1_off45 (k1_t1 : Fin k1_t1_loop.trips) : Fin 3 → Nat :=
  let c2_288 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v807 : Index := Scalar.indexCast v27
  let c512_289 : Index := 512#32
  ![2, v807.toNat, 512]
def k1_off46 (k1_t1 : Fin k1_t1_loop.trips) : Fin 3 → Nat :=
  let c2_290 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v811 : Index := Scalar.indexCast v27
  let c4_291 : Index := 4#32
  ![2, v811.toNat, 4]
def k1_off47 (k1_t1 : Fin k1_t1_loop.trips) : Fin 3 → Nat :=
  let c3_292 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v817 : Index := Scalar.indexCast v27
  let c512_293 : Index := 512#32
  ![3, v817.toNat, 512]
def k1_off48 (k1_t1 : Fin k1_t1_loop.trips) : Fin 3 → Nat :=
  let c3_294 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v821 : Index := Scalar.indexCast v27
  let c4_295 : Index := 4#32
  ![3, v821.toNat, 4]
def k1_off49 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v829 : Index := Scalar.indexCast v27
  let c512_296 : Index := 512#32
  ![v829.toNat, 512]
def k1_off50 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v967 : Index := Scalar.indexCast v27
  let c4_348 : Index := 4#32
  ![v967.toNat, 4]
def k1_off51 (k1_t1 : Fin k1_t1_loop.trips) : Fin 3 → Nat :=
  let c0_352 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v978 : Index := Scalar.indexCast v27
  let c640 : Index := 640#32
  ![0, v978.toNat, 640]
def k1_off52 (k1_t1 : Fin k1_t1_loop.trips) : Fin 3 → Nat :=
  let c0_353 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v982 : Index := Scalar.indexCast v27
  let c5 : Index := 5#32
  ![0, v982.toNat, 5]
def k1_off53 (k1_t1 : Fin k1_t1_loop.trips) : Fin 3 → Nat :=
  let c1_354 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v987 : Index := Scalar.indexCast v27
  let c640_355 : Index := 640#32
  ![1, v987.toNat, 640]
def k1_off54 (k1_t1 : Fin k1_t1_loop.trips) : Fin 3 → Nat :=
  let c1_356 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v991 : Index := Scalar.indexCast v27
  let c5_357 : Index := 5#32
  ![1, v991.toNat, 5]
def k1_off55 (k1_t1 : Fin k1_t1_loop.trips) : Fin 3 → Nat :=
  let c2_358 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v997 : Index := Scalar.indexCast v27
  let c640_359 : Index := 640#32
  ![2, v997.toNat, 640]
def k1_off56 (k1_t1 : Fin k1_t1_loop.trips) : Fin 3 → Nat :=
  let c2_360 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1001 : Index := Scalar.indexCast v27
  let c5_361 : Index := 5#32
  ![2, v1001.toNat, 5]
def k1_off57 (k1_t1 : Fin k1_t1_loop.trips) : Fin 3 → Nat :=
  let c3_362 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1007 : Index := Scalar.indexCast v27
  let c640_363 : Index := 640#32
  ![3, v1007.toNat, 640]
def k1_off58 (k1_t1 : Fin k1_t1_loop.trips) : Fin 3 → Nat :=
  let c3_364 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1011 : Index := Scalar.indexCast v27
  let c5_365 : Index := 5#32
  ![3, v1011.toNat, 5]
def k1_off59 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1019 : Index := Scalar.indexCast v27
  let c640_366 : Index := 640#32
  ![v1019.toNat, 640]
def k1_off60 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1157 : Index := Scalar.indexCast v27
  let c5_418 : Index := 5#32
  ![v1157.toNat, 5]
def k1_off61 (k1_t1 : Fin k1_t1_loop.trips) : Fin 3 → Nat :=
  let c0_422 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1168 : Index := Scalar.indexCast v27
  let c768 : Index := 768#32
  ![0, v1168.toNat, 768]
def k1_off62 (k1_t1 : Fin k1_t1_loop.trips) : Fin 3 → Nat :=
  let c0_423 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1172 : Index := Scalar.indexCast v27
  let c6 : Index := 6#32
  ![0, v1172.toNat, 6]
def k1_off63 (k1_t1 : Fin k1_t1_loop.trips) : Fin 3 → Nat :=
  let c1_424 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1177 : Index := Scalar.indexCast v27
  let c768_425 : Index := 768#32
  ![1, v1177.toNat, 768]
def k1_off64 (k1_t1 : Fin k1_t1_loop.trips) : Fin 3 → Nat :=
  let c1_426 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1181 : Index := Scalar.indexCast v27
  let c6_427 : Index := 6#32
  ![1, v1181.toNat, 6]
def k1_off65 (k1_t1 : Fin k1_t1_loop.trips) : Fin 3 → Nat :=
  let c2_428 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1187 : Index := Scalar.indexCast v27
  let c768_429 : Index := 768#32
  ![2, v1187.toNat, 768]
def k1_off66 (k1_t1 : Fin k1_t1_loop.trips) : Fin 3 → Nat :=
  let c2_430 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1191 : Index := Scalar.indexCast v27
  let c6_431 : Index := 6#32
  ![2, v1191.toNat, 6]
def k1_off67 (k1_t1 : Fin k1_t1_loop.trips) : Fin 3 → Nat :=
  let c3_432 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1197 : Index := Scalar.indexCast v27
  let c768_433 : Index := 768#32
  ![3, v1197.toNat, 768]
def k1_off68 (k1_t1 : Fin k1_t1_loop.trips) : Fin 3 → Nat :=
  let c3_434 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1201 : Index := Scalar.indexCast v27
  let c6_435 : Index := 6#32
  ![3, v1201.toNat, 6]
def k1_off69 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1209 : Index := Scalar.indexCast v27
  let c768_436 : Index := 768#32
  ![v1209.toNat, 768]
def k1_off70 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1347 : Index := Scalar.indexCast v27
  let c6_488 : Index := 6#32
  ![v1347.toNat, 6]
def k1_off71 (k1_t1 : Fin k1_t1_loop.trips) : Fin 3 → Nat :=
  let c0_492 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1358 : Index := Scalar.indexCast v27
  let c896 : Index := 896#32
  ![0, v1358.toNat, 896]
def k1_off72 (k1_t1 : Fin k1_t1_loop.trips) : Fin 3 → Nat :=
  let c0_493 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1362 : Index := Scalar.indexCast v27
  let c7 : Index := 7#32
  ![0, v1362.toNat, 7]
def k1_off73 (k1_t1 : Fin k1_t1_loop.trips) : Fin 3 → Nat :=
  let c1_494 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1367 : Index := Scalar.indexCast v27
  let c896_495 : Index := 896#32
  ![1, v1367.toNat, 896]
def k1_off74 (k1_t1 : Fin k1_t1_loop.trips) : Fin 3 → Nat :=
  let c1_496 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1371 : Index := Scalar.indexCast v27
  let c7_497 : Index := 7#32
  ![1, v1371.toNat, 7]
def k1_off75 (k1_t1 : Fin k1_t1_loop.trips) : Fin 3 → Nat :=
  let c2_498 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1377 : Index := Scalar.indexCast v27
  let c896_499 : Index := 896#32
  ![2, v1377.toNat, 896]
def k1_off76 (k1_t1 : Fin k1_t1_loop.trips) : Fin 3 → Nat :=
  let c2_500 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1381 : Index := Scalar.indexCast v27
  let c7_501 : Index := 7#32
  ![2, v1381.toNat, 7]
def k1_off77 (k1_t1 : Fin k1_t1_loop.trips) : Fin 3 → Nat :=
  let c3_502 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1387 : Index := Scalar.indexCast v27
  let c896_503 : Index := 896#32
  ![3, v1387.toNat, 896]
def k1_off78 (k1_t1 : Fin k1_t1_loop.trips) : Fin 3 → Nat :=
  let c3_504 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1391 : Index := Scalar.indexCast v27
  let c7_505 : Index := 7#32
  ![3, v1391.toNat, 7]
def k1_off79 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1399 : Index := Scalar.indexCast v27
  let c896_506 : Index := 896#32
  ![v1399.toNat, 896]
def k1_off80 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1537 : Index := Scalar.indexCast v27
  let c7_558 : Index := 7#32
  ![v1537.toNat, 7]
def k1_off81 (k1_t1 : Fin k1_t1_loop.trips) : Fin 3 → Nat :=
  let c0_562 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1548 : Index := Scalar.indexCast v27
  let c1024 : Index := 1024#32
  ![0, v1548.toNat, 1024]
def k1_off82 (k1_t1 : Fin k1_t1_loop.trips) : Fin 3 → Nat :=
  let c0_563 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1552 : Index := Scalar.indexCast v27
  let c8 : Index := 8#32
  ![0, v1552.toNat, 8]
def k1_off83 (k1_t1 : Fin k1_t1_loop.trips) : Fin 3 → Nat :=
  let c1_564 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1557 : Index := Scalar.indexCast v27
  let c1024_565 : Index := 1024#32
  ![1, v1557.toNat, 1024]
def k1_off84 (k1_t1 : Fin k1_t1_loop.trips) : Fin 3 → Nat :=
  let c1_566 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1561 : Index := Scalar.indexCast v27
  let c8_567 : Index := 8#32
  ![1, v1561.toNat, 8]
def k1_off85 (k1_t1 : Fin k1_t1_loop.trips) : Fin 3 → Nat :=
  let c2_568 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1567 : Index := Scalar.indexCast v27
  let c1024_569 : Index := 1024#32
  ![2, v1567.toNat, 1024]
def k1_off86 (k1_t1 : Fin k1_t1_loop.trips) : Fin 3 → Nat :=
  let c2_570 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1571 : Index := Scalar.indexCast v27
  let c8_571 : Index := 8#32
  ![2, v1571.toNat, 8]
def k1_off87 (k1_t1 : Fin k1_t1_loop.trips) : Fin 3 → Nat :=
  let c3_572 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1577 : Index := Scalar.indexCast v27
  let c1024_573 : Index := 1024#32
  ![3, v1577.toNat, 1024]
def k1_off88 (k1_t1 : Fin k1_t1_loop.trips) : Fin 3 → Nat :=
  let c3_574 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1581 : Index := Scalar.indexCast v27
  let c8_575 : Index := 8#32
  ![3, v1581.toNat, 8]
def k1_off89 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1589 : Index := Scalar.indexCast v27
  let c1024_576 : Index := 1024#32
  ![v1589.toNat, 1024]
def k1_off90 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1727 : Index := Scalar.indexCast v27
  let c8_628 : Index := 8#32
  ![v1727.toNat, 8]
def k1_off91 (k1_t1 : Fin k1_t1_loop.trips) : Fin 3 → Nat :=
  let c0_632 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1738 : Index := Scalar.indexCast v27
  let c1152 : Index := 1152#32
  ![0, v1738.toNat, 1152]
def k1_off92 (k1_t1 : Fin k1_t1_loop.trips) : Fin 3 → Nat :=
  let c0_633 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1742 : Index := Scalar.indexCast v27
  let c9 : Index := 9#32
  ![0, v1742.toNat, 9]
def k1_off93 (k1_t1 : Fin k1_t1_loop.trips) : Fin 3 → Nat :=
  let c1_634 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1747 : Index := Scalar.indexCast v27
  let c1152_635 : Index := 1152#32
  ![1, v1747.toNat, 1152]
def k1_off94 (k1_t1 : Fin k1_t1_loop.trips) : Fin 3 → Nat :=
  let c1_636 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1751 : Index := Scalar.indexCast v27
  let c9_637 : Index := 9#32
  ![1, v1751.toNat, 9]
def k1_off95 (k1_t1 : Fin k1_t1_loop.trips) : Fin 3 → Nat :=
  let c2_638 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1757 : Index := Scalar.indexCast v27
  let c1152_639 : Index := 1152#32
  ![2, v1757.toNat, 1152]
def k1_off96 (k1_t1 : Fin k1_t1_loop.trips) : Fin 3 → Nat :=
  let c2_640 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1761 : Index := Scalar.indexCast v27
  let c9_641 : Index := 9#32
  ![2, v1761.toNat, 9]
def k1_off97 (k1_t1 : Fin k1_t1_loop.trips) : Fin 3 → Nat :=
  let c3_642 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1767 : Index := Scalar.indexCast v27
  let c1152_643 : Index := 1152#32
  ![3, v1767.toNat, 1152]
def k1_off98 (k1_t1 : Fin k1_t1_loop.trips) : Fin 3 → Nat :=
  let c3_644 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1771 : Index := Scalar.indexCast v27
  let c9_645 : Index := 9#32
  ![3, v1771.toNat, 9]
def k1_off99 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1779 : Index := Scalar.indexCast v27
  let c1152_646 : Index := 1152#32
  ![v1779.toNat, 1152]
def k1_off100 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1917 : Index := Scalar.indexCast v27
  let c9_698 : Index := 9#32
  ![v1917.toNat, 9]
def k1_off101 (k1_t1 : Fin k1_t1_loop.trips) : Fin 3 → Nat :=
  let c0_702 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1928 : Index := Scalar.indexCast v27
  let c1280 : Index := 1280#32
  ![0, v1928.toNat, 1280]
def k1_off102 (k1_t1 : Fin k1_t1_loop.trips) : Fin 3 → Nat :=
  let c0_703 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1932 : Index := Scalar.indexCast v27
  let c10 : Index := 10#32
  ![0, v1932.toNat, 10]
def k1_off103 (k1_t1 : Fin k1_t1_loop.trips) : Fin 3 → Nat :=
  let c1_704 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1937 : Index := Scalar.indexCast v27
  let c1280_705 : Index := 1280#32
  ![1, v1937.toNat, 1280]
def k1_off104 (k1_t1 : Fin k1_t1_loop.trips) : Fin 3 → Nat :=
  let c1_706 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1941 : Index := Scalar.indexCast v27
  let c10_707 : Index := 10#32
  ![1, v1941.toNat, 10]
def k1_off105 (k1_t1 : Fin k1_t1_loop.trips) : Fin 3 → Nat :=
  let c2_708 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1947 : Index := Scalar.indexCast v27
  let c1280_709 : Index := 1280#32
  ![2, v1947.toNat, 1280]
def k1_off106 (k1_t1 : Fin k1_t1_loop.trips) : Fin 3 → Nat :=
  let c2_710 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1951 : Index := Scalar.indexCast v27
  let c10_711 : Index := 10#32
  ![2, v1951.toNat, 10]
def k1_off107 (k1_t1 : Fin k1_t1_loop.trips) : Fin 3 → Nat :=
  let c3_712 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1957 : Index := Scalar.indexCast v27
  let c1280_713 : Index := 1280#32
  ![3, v1957.toNat, 1280]
def k1_off108 (k1_t1 : Fin k1_t1_loop.trips) : Fin 3 → Nat :=
  let c3_714 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1961 : Index := Scalar.indexCast v27
  let c10_715 : Index := 10#32
  ![3, v1961.toNat, 10]
def k1_off109 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v1969 : Index := Scalar.indexCast v27
  let c1280_716 : Index := 1280#32
  ![v1969.toNat, 1280]
def k1_off110 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2107 : Index := Scalar.indexCast v27
  let c10_768 : Index := 10#32
  ![v2107.toNat, 10]
def k1_off111 (k1_t1 : Fin k1_t1_loop.trips) : Fin 3 → Nat :=
  let c0_772 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2118 : Index := Scalar.indexCast v27
  let c1408 : Index := 1408#32
  ![0, v2118.toNat, 1408]
def k1_off112 (k1_t1 : Fin k1_t1_loop.trips) : Fin 3 → Nat :=
  let c0_773 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2122 : Index := Scalar.indexCast v27
  let c11 : Index := 11#32
  ![0, v2122.toNat, 11]
def k1_off113 (k1_t1 : Fin k1_t1_loop.trips) : Fin 3 → Nat :=
  let c1_774 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2127 : Index := Scalar.indexCast v27
  let c1408_775 : Index := 1408#32
  ![1, v2127.toNat, 1408]
def k1_off114 (k1_t1 : Fin k1_t1_loop.trips) : Fin 3 → Nat :=
  let c1_776 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2131 : Index := Scalar.indexCast v27
  let c11_777 : Index := 11#32
  ![1, v2131.toNat, 11]
def k1_off115 (k1_t1 : Fin k1_t1_loop.trips) : Fin 3 → Nat :=
  let c2_778 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2137 : Index := Scalar.indexCast v27
  let c1408_779 : Index := 1408#32
  ![2, v2137.toNat, 1408]
def k1_off116 (k1_t1 : Fin k1_t1_loop.trips) : Fin 3 → Nat :=
  let c2_780 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2141 : Index := Scalar.indexCast v27
  let c11_781 : Index := 11#32
  ![2, v2141.toNat, 11]
def k1_off117 (k1_t1 : Fin k1_t1_loop.trips) : Fin 3 → Nat :=
  let c3_782 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2147 : Index := Scalar.indexCast v27
  let c1408_783 : Index := 1408#32
  ![3, v2147.toNat, 1408]
def k1_off118 (k1_t1 : Fin k1_t1_loop.trips) : Fin 3 → Nat :=
  let c3_784 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2151 : Index := Scalar.indexCast v27
  let c11_785 : Index := 11#32
  ![3, v2151.toNat, 11]
def k1_off119 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2159 : Index := Scalar.indexCast v27
  let c1408_786 : Index := 1408#32
  ![v2159.toNat, 1408]
def k1_off120 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2297 : Index := Scalar.indexCast v27
  let c11_838 : Index := 11#32
  ![v2297.toNat, 11]
def k1_off121 (k1_t1 : Fin k1_t1_loop.trips) : Fin 3 → Nat :=
  let c0_842 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2308 : Index := Scalar.indexCast v27
  let c1536 : Index := 1536#32
  ![0, v2308.toNat, 1536]
def k1_off122 (k1_t1 : Fin k1_t1_loop.trips) : Fin 3 → Nat :=
  let c0_843 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2312 : Index := Scalar.indexCast v27
  let c12 : Index := 12#32
  ![0, v2312.toNat, 12]
def k1_off123 (k1_t1 : Fin k1_t1_loop.trips) : Fin 3 → Nat :=
  let c1_844 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2317 : Index := Scalar.indexCast v27
  let c1536_845 : Index := 1536#32
  ![1, v2317.toNat, 1536]
def k1_off124 (k1_t1 : Fin k1_t1_loop.trips) : Fin 3 → Nat :=
  let c1_846 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2321 : Index := Scalar.indexCast v27
  let c12_847 : Index := 12#32
  ![1, v2321.toNat, 12]
def k1_off125 (k1_t1 : Fin k1_t1_loop.trips) : Fin 3 → Nat :=
  let c2_848 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2327 : Index := Scalar.indexCast v27
  let c1536_849 : Index := 1536#32
  ![2, v2327.toNat, 1536]
def k1_off126 (k1_t1 : Fin k1_t1_loop.trips) : Fin 3 → Nat :=
  let c2_850 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2331 : Index := Scalar.indexCast v27
  let c12_851 : Index := 12#32
  ![2, v2331.toNat, 12]
def k1_off127 (k1_t1 : Fin k1_t1_loop.trips) : Fin 3 → Nat :=
  let c3_852 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2337 : Index := Scalar.indexCast v27
  let c1536_853 : Index := 1536#32
  ![3, v2337.toNat, 1536]
def k1_off128 (k1_t1 : Fin k1_t1_loop.trips) : Fin 3 → Nat :=
  let c3_854 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2341 : Index := Scalar.indexCast v27
  let c12_855 : Index := 12#32
  ![3, v2341.toNat, 12]
def k1_off129 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2349 : Index := Scalar.indexCast v27
  let c1536_856 : Index := 1536#32
  ![v2349.toNat, 1536]
def k1_off130 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2487 : Index := Scalar.indexCast v27
  let c12_908 : Index := 12#32
  ![v2487.toNat, 12]
def k1_off131 (k1_t1 : Fin k1_t1_loop.trips) : Fin 3 → Nat :=
  let c0_912 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2498 : Index := Scalar.indexCast v27
  let c1664 : Index := 1664#32
  ![0, v2498.toNat, 1664]
def k1_off132 (k1_t1 : Fin k1_t1_loop.trips) : Fin 3 → Nat :=
  let c0_913 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2502 : Index := Scalar.indexCast v27
  let c13 : Index := 13#32
  ![0, v2502.toNat, 13]
def k1_off133 (k1_t1 : Fin k1_t1_loop.trips) : Fin 3 → Nat :=
  let c1_914 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2507 : Index := Scalar.indexCast v27
  let c1664_915 : Index := 1664#32
  ![1, v2507.toNat, 1664]
def k1_off134 (k1_t1 : Fin k1_t1_loop.trips) : Fin 3 → Nat :=
  let c1_916 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2511 : Index := Scalar.indexCast v27
  let c13_917 : Index := 13#32
  ![1, v2511.toNat, 13]
def k1_off135 (k1_t1 : Fin k1_t1_loop.trips) : Fin 3 → Nat :=
  let c2_918 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2517 : Index := Scalar.indexCast v27
  let c1664_919 : Index := 1664#32
  ![2, v2517.toNat, 1664]
def k1_off136 (k1_t1 : Fin k1_t1_loop.trips) : Fin 3 → Nat :=
  let c2_920 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2521 : Index := Scalar.indexCast v27
  let c13_921 : Index := 13#32
  ![2, v2521.toNat, 13]
def k1_off137 (k1_t1 : Fin k1_t1_loop.trips) : Fin 3 → Nat :=
  let c3_922 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2527 : Index := Scalar.indexCast v27
  let c1664_923 : Index := 1664#32
  ![3, v2527.toNat, 1664]
def k1_off138 (k1_t1 : Fin k1_t1_loop.trips) : Fin 3 → Nat :=
  let c3_924 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2531 : Index := Scalar.indexCast v27
  let c13_925 : Index := 13#32
  ![3, v2531.toNat, 13]
def k1_off139 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2539 : Index := Scalar.indexCast v27
  let c1664_926 : Index := 1664#32
  ![v2539.toNat, 1664]
def k1_off140 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2677 : Index := Scalar.indexCast v27
  let c13_978 : Index := 13#32
  ![v2677.toNat, 13]
def k1_off141 (k1_t1 : Fin k1_t1_loop.trips) : Fin 3 → Nat :=
  let c0_982 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2688 : Index := Scalar.indexCast v27
  let c1792 : Index := 1792#32
  ![0, v2688.toNat, 1792]
def k1_off142 (k1_t1 : Fin k1_t1_loop.trips) : Fin 3 → Nat :=
  let c0_983 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2692 : Index := Scalar.indexCast v27
  let c14 : Index := 14#32
  ![0, v2692.toNat, 14]
def k1_off143 (k1_t1 : Fin k1_t1_loop.trips) : Fin 3 → Nat :=
  let c1_984 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2697 : Index := Scalar.indexCast v27
  let c1792_985 : Index := 1792#32
  ![1, v2697.toNat, 1792]
def k1_off144 (k1_t1 : Fin k1_t1_loop.trips) : Fin 3 → Nat :=
  let c1_986 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2701 : Index := Scalar.indexCast v27
  let c14_987 : Index := 14#32
  ![1, v2701.toNat, 14]
def k1_off145 (k1_t1 : Fin k1_t1_loop.trips) : Fin 3 → Nat :=
  let c2_988 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2707 : Index := Scalar.indexCast v27
  let c1792_989 : Index := 1792#32
  ![2, v2707.toNat, 1792]
def k1_off146 (k1_t1 : Fin k1_t1_loop.trips) : Fin 3 → Nat :=
  let c2_990 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2711 : Index := Scalar.indexCast v27
  let c14_991 : Index := 14#32
  ![2, v2711.toNat, 14]
def k1_off147 (k1_t1 : Fin k1_t1_loop.trips) : Fin 3 → Nat :=
  let c3_992 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2717 : Index := Scalar.indexCast v27
  let c1792_993 : Index := 1792#32
  ![3, v2717.toNat, 1792]
def k1_off148 (k1_t1 : Fin k1_t1_loop.trips) : Fin 3 → Nat :=
  let c3_994 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2721 : Index := Scalar.indexCast v27
  let c14_995 : Index := 14#32
  ![3, v2721.toNat, 14]
def k1_off149 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2729 : Index := Scalar.indexCast v27
  let c1792_996 : Index := 1792#32
  ![v2729.toNat, 1792]
def k1_off150 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2867 : Index := Scalar.indexCast v27
  let c14_1048 : Index := 14#32
  ![v2867.toNat, 14]
def k1_off151 (k1_t1 : Fin k1_t1_loop.trips) : Fin 3 → Nat :=
  let c0_1052 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2878 : Index := Scalar.indexCast v27
  let c1920 : Index := 1920#32
  ![0, v2878.toNat, 1920]
def k1_off152 (k1_t1 : Fin k1_t1_loop.trips) : Fin 3 → Nat :=
  let c0_1053 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2882 : Index := Scalar.indexCast v27
  let c15 : Index := 15#32
  ![0, v2882.toNat, 15]
def k1_off153 (k1_t1 : Fin k1_t1_loop.trips) : Fin 3 → Nat :=
  let c1_1054 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2887 : Index := Scalar.indexCast v27
  let c1920_1055 : Index := 1920#32
  ![1, v2887.toNat, 1920]
def k1_off154 (k1_t1 : Fin k1_t1_loop.trips) : Fin 3 → Nat :=
  let c1_1056 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2891 : Index := Scalar.indexCast v27
  let c15_1057 : Index := 15#32
  ![1, v2891.toNat, 15]
def k1_off155 (k1_t1 : Fin k1_t1_loop.trips) : Fin 3 → Nat :=
  let c2_1058 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2897 : Index := Scalar.indexCast v27
  let c1920_1059 : Index := 1920#32
  ![2, v2897.toNat, 1920]
def k1_off156 (k1_t1 : Fin k1_t1_loop.trips) : Fin 3 → Nat :=
  let c2_1060 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2901 : Index := Scalar.indexCast v27
  let c15_1061 : Index := 15#32
  ![2, v2901.toNat, 15]
def k1_off157 (k1_t1 : Fin k1_t1_loop.trips) : Fin 3 → Nat :=
  let c3_1062 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2907 : Index := Scalar.indexCast v27
  let c1920_1063 : Index := 1920#32
  ![3, v2907.toNat, 1920]
def k1_off158 (k1_t1 : Fin k1_t1_loop.trips) : Fin 3 → Nat :=
  let c3_1064 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2911 : Index := Scalar.indexCast v27
  let c15_1065 : Index := 15#32
  ![3, v2911.toNat, 15]
def k1_off159 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v2919 : Index := Scalar.indexCast v27
  let c1920_1066 : Index := 1920#32
  ![v2919.toNat, 1920]
def k1_off160 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3057 : Index := Scalar.indexCast v27
  let c15_1118 : Index := 15#32
  ![v3057.toNat, 15]
def k1_off161 (k1_t1 : Fin k1_t1_loop.trips) : Fin 3 → Nat :=
  let c0_1122 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3068 : Index := Scalar.indexCast v27
  let c2048 : Index := 2048#32
  ![0, v3068.toNat, 2048]
def k1_off162 (k1_t1 : Fin k1_t1_loop.trips) : Fin 3 → Nat :=
  let c0_1123 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3072 : Index := Scalar.indexCast v27
  let c16 : Index := 16#32
  ![0, v3072.toNat, 16]
def k1_off163 (k1_t1 : Fin k1_t1_loop.trips) : Fin 3 → Nat :=
  let c1_1124 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3077 : Index := Scalar.indexCast v27
  let c2048_1125 : Index := 2048#32
  ![1, v3077.toNat, 2048]
def k1_off164 (k1_t1 : Fin k1_t1_loop.trips) : Fin 3 → Nat :=
  let c1_1126 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3081 : Index := Scalar.indexCast v27
  let c16_1127 : Index := 16#32
  ![1, v3081.toNat, 16]
def k1_off165 (k1_t1 : Fin k1_t1_loop.trips) : Fin 3 → Nat :=
  let c2_1128 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3087 : Index := Scalar.indexCast v27
  let c2048_1129 : Index := 2048#32
  ![2, v3087.toNat, 2048]
def k1_off166 (k1_t1 : Fin k1_t1_loop.trips) : Fin 3 → Nat :=
  let c2_1130 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3091 : Index := Scalar.indexCast v27
  let c16_1131 : Index := 16#32
  ![2, v3091.toNat, 16]
def k1_off167 (k1_t1 : Fin k1_t1_loop.trips) : Fin 3 → Nat :=
  let c3_1132 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3097 : Index := Scalar.indexCast v27
  let c2048_1133 : Index := 2048#32
  ![3, v3097.toNat, 2048]
def k1_off168 (k1_t1 : Fin k1_t1_loop.trips) : Fin 3 → Nat :=
  let c3_1134 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3101 : Index := Scalar.indexCast v27
  let c16_1135 : Index := 16#32
  ![3, v3101.toNat, 16]
def k1_off169 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3109 : Index := Scalar.indexCast v27
  let c2048_1136 : Index := 2048#32
  ![v3109.toNat, 2048]
def k1_off170 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3247 : Index := Scalar.indexCast v27
  let c16_1188 : Index := 16#32
  ![v3247.toNat, 16]
def k1_off171 (k1_t1 : Fin k1_t1_loop.trips) : Fin 3 → Nat :=
  let c0_1192 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3258 : Index := Scalar.indexCast v27
  let c2176 : Index := 2176#32
  ![0, v3258.toNat, 2176]
def k1_off172 (k1_t1 : Fin k1_t1_loop.trips) : Fin 3 → Nat :=
  let c0_1193 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3262 : Index := Scalar.indexCast v27
  let c17 : Index := 17#32
  ![0, v3262.toNat, 17]
def k1_off173 (k1_t1 : Fin k1_t1_loop.trips) : Fin 3 → Nat :=
  let c1_1194 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3267 : Index := Scalar.indexCast v27
  let c2176_1195 : Index := 2176#32
  ![1, v3267.toNat, 2176]
def k1_off174 (k1_t1 : Fin k1_t1_loop.trips) : Fin 3 → Nat :=
  let c1_1196 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3271 : Index := Scalar.indexCast v27
  let c17_1197 : Index := 17#32
  ![1, v3271.toNat, 17]
def k1_off175 (k1_t1 : Fin k1_t1_loop.trips) : Fin 3 → Nat :=
  let c2_1198 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3277 : Index := Scalar.indexCast v27
  let c2176_1199 : Index := 2176#32
  ![2, v3277.toNat, 2176]
def k1_off176 (k1_t1 : Fin k1_t1_loop.trips) : Fin 3 → Nat :=
  let c2_1200 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3281 : Index := Scalar.indexCast v27
  let c17_1201 : Index := 17#32
  ![2, v3281.toNat, 17]
def k1_off177 (k1_t1 : Fin k1_t1_loop.trips) : Fin 3 → Nat :=
  let c3_1202 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3287 : Index := Scalar.indexCast v27
  let c2176_1203 : Index := 2176#32
  ![3, v3287.toNat, 2176]
def k1_off178 (k1_t1 : Fin k1_t1_loop.trips) : Fin 3 → Nat :=
  let c3_1204 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3291 : Index := Scalar.indexCast v27
  let c17_1205 : Index := 17#32
  ![3, v3291.toNat, 17]
def k1_off179 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3299 : Index := Scalar.indexCast v27
  let c2176_1206 : Index := 2176#32
  ![v3299.toNat, 2176]
def k1_off180 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3437 : Index := Scalar.indexCast v27
  let c17_1258 : Index := 17#32
  ![v3437.toNat, 17]
def k1_off181 (k1_t1 : Fin k1_t1_loop.trips) : Fin 3 → Nat :=
  let c0_1262 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3448 : Index := Scalar.indexCast v27
  let c2304 : Index := 2304#32
  ![0, v3448.toNat, 2304]
def k1_off182 (k1_t1 : Fin k1_t1_loop.trips) : Fin 3 → Nat :=
  let c0_1263 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3452 : Index := Scalar.indexCast v27
  let c18 : Index := 18#32
  ![0, v3452.toNat, 18]
def k1_off183 (k1_t1 : Fin k1_t1_loop.trips) : Fin 3 → Nat :=
  let c1_1264 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3457 : Index := Scalar.indexCast v27
  let c2304_1265 : Index := 2304#32
  ![1, v3457.toNat, 2304]
def k1_off184 (k1_t1 : Fin k1_t1_loop.trips) : Fin 3 → Nat :=
  let c1_1266 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3461 : Index := Scalar.indexCast v27
  let c18_1267 : Index := 18#32
  ![1, v3461.toNat, 18]
def k1_off185 (k1_t1 : Fin k1_t1_loop.trips) : Fin 3 → Nat :=
  let c2_1268 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3467 : Index := Scalar.indexCast v27
  let c2304_1269 : Index := 2304#32
  ![2, v3467.toNat, 2304]
def k1_off186 (k1_t1 : Fin k1_t1_loop.trips) : Fin 3 → Nat :=
  let c2_1270 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3471 : Index := Scalar.indexCast v27
  let c18_1271 : Index := 18#32
  ![2, v3471.toNat, 18]
def k1_off187 (k1_t1 : Fin k1_t1_loop.trips) : Fin 3 → Nat :=
  let c3_1272 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3477 : Index := Scalar.indexCast v27
  let c2304_1273 : Index := 2304#32
  ![3, v3477.toNat, 2304]
def k1_off188 (k1_t1 : Fin k1_t1_loop.trips) : Fin 3 → Nat :=
  let c3_1274 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3481 : Index := Scalar.indexCast v27
  let c18_1275 : Index := 18#32
  ![3, v3481.toNat, 18]
def k1_off189 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3489 : Index := Scalar.indexCast v27
  let c2304_1276 : Index := 2304#32
  ![v3489.toNat, 2304]
def k1_off190 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3627 : Index := Scalar.indexCast v27
  let c18_1328 : Index := 18#32
  ![v3627.toNat, 18]
def k1_off191 (k1_t1 : Fin k1_t1_loop.trips) : Fin 3 → Nat :=
  let c0_1332 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3638 : Index := Scalar.indexCast v27
  let c2432 : Index := 2432#32
  ![0, v3638.toNat, 2432]
def k1_off192 (k1_t1 : Fin k1_t1_loop.trips) : Fin 3 → Nat :=
  let c0_1333 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3642 : Index := Scalar.indexCast v27
  let c19 : Index := 19#32
  ![0, v3642.toNat, 19]
def k1_off193 (k1_t1 : Fin k1_t1_loop.trips) : Fin 3 → Nat :=
  let c1_1334 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3647 : Index := Scalar.indexCast v27
  let c2432_1335 : Index := 2432#32
  ![1, v3647.toNat, 2432]
def k1_off194 (k1_t1 : Fin k1_t1_loop.trips) : Fin 3 → Nat :=
  let c1_1336 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3651 : Index := Scalar.indexCast v27
  let c19_1337 : Index := 19#32
  ![1, v3651.toNat, 19]
def k1_off195 (k1_t1 : Fin k1_t1_loop.trips) : Fin 3 → Nat :=
  let c2_1338 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3657 : Index := Scalar.indexCast v27
  let c2432_1339 : Index := 2432#32
  ![2, v3657.toNat, 2432]
def k1_off196 (k1_t1 : Fin k1_t1_loop.trips) : Fin 3 → Nat :=
  let c2_1340 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3661 : Index := Scalar.indexCast v27
  let c19_1341 : Index := 19#32
  ![2, v3661.toNat, 19]
def k1_off197 (k1_t1 : Fin k1_t1_loop.trips) : Fin 3 → Nat :=
  let c3_1342 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3667 : Index := Scalar.indexCast v27
  let c2432_1343 : Index := 2432#32
  ![3, v3667.toNat, 2432]
def k1_off198 (k1_t1 : Fin k1_t1_loop.trips) : Fin 3 → Nat :=
  let c3_1344 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3671 : Index := Scalar.indexCast v27
  let c19_1345 : Index := 19#32
  ![3, v3671.toNat, 19]
def k1_off199 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3679 : Index := Scalar.indexCast v27
  let c2432_1346 : Index := 2432#32
  ![v3679.toNat, 2432]
def k1_off200 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3817 : Index := Scalar.indexCast v27
  let c19_1398 : Index := 19#32
  ![v3817.toNat, 19]
def k1_off201 (k1_t1 : Fin k1_t1_loop.trips) : Fin 3 → Nat :=
  let c0_1402 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3828 : Index := Scalar.indexCast v27
  let c2560 : Index := 2560#32
  ![0, v3828.toNat, 2560]
def k1_off202 (k1_t1 : Fin k1_t1_loop.trips) : Fin 3 → Nat :=
  let c0_1403 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3832 : Index := Scalar.indexCast v27
  let c20 : Index := 20#32
  ![0, v3832.toNat, 20]
def k1_off203 (k1_t1 : Fin k1_t1_loop.trips) : Fin 3 → Nat :=
  let c1_1404 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3837 : Index := Scalar.indexCast v27
  let c2560_1405 : Index := 2560#32
  ![1, v3837.toNat, 2560]
def k1_off204 (k1_t1 : Fin k1_t1_loop.trips) : Fin 3 → Nat :=
  let c1_1406 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3841 : Index := Scalar.indexCast v27
  let c20_1407 : Index := 20#32
  ![1, v3841.toNat, 20]
def k1_off205 (k1_t1 : Fin k1_t1_loop.trips) : Fin 3 → Nat :=
  let c2_1408 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3847 : Index := Scalar.indexCast v27
  let c2560_1409 : Index := 2560#32
  ![2, v3847.toNat, 2560]
def k1_off206 (k1_t1 : Fin k1_t1_loop.trips) : Fin 3 → Nat :=
  let c2_1410 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3851 : Index := Scalar.indexCast v27
  let c20_1411 : Index := 20#32
  ![2, v3851.toNat, 20]
def k1_off207 (k1_t1 : Fin k1_t1_loop.trips) : Fin 3 → Nat :=
  let c3_1412 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3857 : Index := Scalar.indexCast v27
  let c2560_1413 : Index := 2560#32
  ![3, v3857.toNat, 2560]
def k1_off208 (k1_t1 : Fin k1_t1_loop.trips) : Fin 3 → Nat :=
  let c3_1414 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3861 : Index := Scalar.indexCast v27
  let c20_1415 : Index := 20#32
  ![3, v3861.toNat, 20]
def k1_off209 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v3869 : Index := Scalar.indexCast v27
  let c2560_1416 : Index := 2560#32
  ![v3869.toNat, 2560]
def k1_off210 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4007 : Index := Scalar.indexCast v27
  let c20_1468 : Index := 20#32
  ![v4007.toNat, 20]
def k1_off211 (k1_t1 : Fin k1_t1_loop.trips) : Fin 3 → Nat :=
  let c0_1472 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4018 : Index := Scalar.indexCast v27
  let c2688 : Index := 2688#32
  ![0, v4018.toNat, 2688]
def k1_off212 (k1_t1 : Fin k1_t1_loop.trips) : Fin 3 → Nat :=
  let c0_1473 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4022 : Index := Scalar.indexCast v27
  let c21 : Index := 21#32
  ![0, v4022.toNat, 21]
def k1_off213 (k1_t1 : Fin k1_t1_loop.trips) : Fin 3 → Nat :=
  let c1_1474 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4027 : Index := Scalar.indexCast v27
  let c2688_1475 : Index := 2688#32
  ![1, v4027.toNat, 2688]
def k1_off214 (k1_t1 : Fin k1_t1_loop.trips) : Fin 3 → Nat :=
  let c1_1476 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4031 : Index := Scalar.indexCast v27
  let c21_1477 : Index := 21#32
  ![1, v4031.toNat, 21]
def k1_off215 (k1_t1 : Fin k1_t1_loop.trips) : Fin 3 → Nat :=
  let c2_1478 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4037 : Index := Scalar.indexCast v27
  let c2688_1479 : Index := 2688#32
  ![2, v4037.toNat, 2688]
def k1_off216 (k1_t1 : Fin k1_t1_loop.trips) : Fin 3 → Nat :=
  let c2_1480 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4041 : Index := Scalar.indexCast v27
  let c21_1481 : Index := 21#32
  ![2, v4041.toNat, 21]
def k1_off217 (k1_t1 : Fin k1_t1_loop.trips) : Fin 3 → Nat :=
  let c3_1482 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4047 : Index := Scalar.indexCast v27
  let c2688_1483 : Index := 2688#32
  ![3, v4047.toNat, 2688]
def k1_off218 (k1_t1 : Fin k1_t1_loop.trips) : Fin 3 → Nat :=
  let c3_1484 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4051 : Index := Scalar.indexCast v27
  let c21_1485 : Index := 21#32
  ![3, v4051.toNat, 21]
def k1_off219 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4059 : Index := Scalar.indexCast v27
  let c2688_1486 : Index := 2688#32
  ![v4059.toNat, 2688]
def k1_off220 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4197 : Index := Scalar.indexCast v27
  let c21_1538 : Index := 21#32
  ![v4197.toNat, 21]
def k1_off221 (k1_t1 : Fin k1_t1_loop.trips) : Fin 3 → Nat :=
  let c0_1542 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4208 : Index := Scalar.indexCast v27
  let c2816 : Index := 2816#32
  ![0, v4208.toNat, 2816]
def k1_off222 (k1_t1 : Fin k1_t1_loop.trips) : Fin 3 → Nat :=
  let c0_1543 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4212 : Index := Scalar.indexCast v27
  let c22 : Index := 22#32
  ![0, v4212.toNat, 22]
def k1_off223 (k1_t1 : Fin k1_t1_loop.trips) : Fin 3 → Nat :=
  let c1_1544 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4217 : Index := Scalar.indexCast v27
  let c2816_1545 : Index := 2816#32
  ![1, v4217.toNat, 2816]
def k1_off224 (k1_t1 : Fin k1_t1_loop.trips) : Fin 3 → Nat :=
  let c1_1546 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4221 : Index := Scalar.indexCast v27
  let c22_1547 : Index := 22#32
  ![1, v4221.toNat, 22]
def k1_off225 (k1_t1 : Fin k1_t1_loop.trips) : Fin 3 → Nat :=
  let c2_1548 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4227 : Index := Scalar.indexCast v27
  let c2816_1549 : Index := 2816#32
  ![2, v4227.toNat, 2816]
def k1_off226 (k1_t1 : Fin k1_t1_loop.trips) : Fin 3 → Nat :=
  let c2_1550 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4231 : Index := Scalar.indexCast v27
  let c22_1551 : Index := 22#32
  ![2, v4231.toNat, 22]
def k1_off227 (k1_t1 : Fin k1_t1_loop.trips) : Fin 3 → Nat :=
  let c3_1552 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4237 : Index := Scalar.indexCast v27
  let c2816_1553 : Index := 2816#32
  ![3, v4237.toNat, 2816]
def k1_off228 (k1_t1 : Fin k1_t1_loop.trips) : Fin 3 → Nat :=
  let c3_1554 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4241 : Index := Scalar.indexCast v27
  let c22_1555 : Index := 22#32
  ![3, v4241.toNat, 22]
def k1_off229 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4249 : Index := Scalar.indexCast v27
  let c2816_1556 : Index := 2816#32
  ![v4249.toNat, 2816]
def k1_off230 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4387 : Index := Scalar.indexCast v27
  let c22_1608 : Index := 22#32
  ![v4387.toNat, 22]
def k1_off231 (k1_t1 : Fin k1_t1_loop.trips) : Fin 3 → Nat :=
  let c0_1612 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4398 : Index := Scalar.indexCast v27
  let c2944 : Index := 2944#32
  ![0, v4398.toNat, 2944]
def k1_off232 (k1_t1 : Fin k1_t1_loop.trips) : Fin 3 → Nat :=
  let c0_1613 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4402 : Index := Scalar.indexCast v27
  let c23 : Index := 23#32
  ![0, v4402.toNat, 23]
def k1_off233 (k1_t1 : Fin k1_t1_loop.trips) : Fin 3 → Nat :=
  let c1_1614 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4407 : Index := Scalar.indexCast v27
  let c2944_1615 : Index := 2944#32
  ![1, v4407.toNat, 2944]
def k1_off234 (k1_t1 : Fin k1_t1_loop.trips) : Fin 3 → Nat :=
  let c1_1616 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4411 : Index := Scalar.indexCast v27
  let c23_1617 : Index := 23#32
  ![1, v4411.toNat, 23]
def k1_off235 (k1_t1 : Fin k1_t1_loop.trips) : Fin 3 → Nat :=
  let c2_1618 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4417 : Index := Scalar.indexCast v27
  let c2944_1619 : Index := 2944#32
  ![2, v4417.toNat, 2944]
def k1_off236 (k1_t1 : Fin k1_t1_loop.trips) : Fin 3 → Nat :=
  let c2_1620 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4421 : Index := Scalar.indexCast v27
  let c23_1621 : Index := 23#32
  ![2, v4421.toNat, 23]
def k1_off237 (k1_t1 : Fin k1_t1_loop.trips) : Fin 3 → Nat :=
  let c3_1622 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4427 : Index := Scalar.indexCast v27
  let c2944_1623 : Index := 2944#32
  ![3, v4427.toNat, 2944]
def k1_off238 (k1_t1 : Fin k1_t1_loop.trips) : Fin 3 → Nat :=
  let c3_1624 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4431 : Index := Scalar.indexCast v27
  let c23_1625 : Index := 23#32
  ![3, v4431.toNat, 23]
def k1_off239 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4439 : Index := Scalar.indexCast v27
  let c2944_1626 : Index := 2944#32
  ![v4439.toNat, 2944]
def k1_off240 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4577 : Index := Scalar.indexCast v27
  let c23_1678 : Index := 23#32
  ![v4577.toNat, 23]
def k1_off241 (k1_t1 : Fin k1_t1_loop.trips) : Fin 3 → Nat :=
  let c0_1682 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4588 : Index := Scalar.indexCast v27
  let c3072 : Index := 3072#32
  ![0, v4588.toNat, 3072]
def k1_off242 (k1_t1 : Fin k1_t1_loop.trips) : Fin 3 → Nat :=
  let c0_1683 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4592 : Index := Scalar.indexCast v27
  let c24 : Index := 24#32
  ![0, v4592.toNat, 24]
def k1_off243 (k1_t1 : Fin k1_t1_loop.trips) : Fin 3 → Nat :=
  let c1_1684 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4597 : Index := Scalar.indexCast v27
  let c3072_1685 : Index := 3072#32
  ![1, v4597.toNat, 3072]
def k1_off244 (k1_t1 : Fin k1_t1_loop.trips) : Fin 3 → Nat :=
  let c1_1686 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4601 : Index := Scalar.indexCast v27
  let c24_1687 : Index := 24#32
  ![1, v4601.toNat, 24]
def k1_off245 (k1_t1 : Fin k1_t1_loop.trips) : Fin 3 → Nat :=
  let c2_1688 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4607 : Index := Scalar.indexCast v27
  let c3072_1689 : Index := 3072#32
  ![2, v4607.toNat, 3072]
def k1_off246 (k1_t1 : Fin k1_t1_loop.trips) : Fin 3 → Nat :=
  let c2_1690 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4611 : Index := Scalar.indexCast v27
  let c24_1691 : Index := 24#32
  ![2, v4611.toNat, 24]
def k1_off247 (k1_t1 : Fin k1_t1_loop.trips) : Fin 3 → Nat :=
  let c3_1692 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4617 : Index := Scalar.indexCast v27
  let c3072_1693 : Index := 3072#32
  ![3, v4617.toNat, 3072]
def k1_off248 (k1_t1 : Fin k1_t1_loop.trips) : Fin 3 → Nat :=
  let c3_1694 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4621 : Index := Scalar.indexCast v27
  let c24_1695 : Index := 24#32
  ![3, v4621.toNat, 24]
def k1_off249 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4629 : Index := Scalar.indexCast v27
  let c3072_1696 : Index := 3072#32
  ![v4629.toNat, 3072]
def k1_off250 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4767 : Index := Scalar.indexCast v27
  let c24_1748 : Index := 24#32
  ![v4767.toNat, 24]
def k1_off251 (k1_t1 : Fin k1_t1_loop.trips) : Fin 3 → Nat :=
  let c0_1752 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4778 : Index := Scalar.indexCast v27
  let c3200 : Index := 3200#32
  ![0, v4778.toNat, 3200]
def k1_off252 (k1_t1 : Fin k1_t1_loop.trips) : Fin 3 → Nat :=
  let c0_1753 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4782 : Index := Scalar.indexCast v27
  let c25 : Index := 25#32
  ![0, v4782.toNat, 25]
def k1_off253 (k1_t1 : Fin k1_t1_loop.trips) : Fin 3 → Nat :=
  let c1_1754 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4787 : Index := Scalar.indexCast v27
  let c3200_1755 : Index := 3200#32
  ![1, v4787.toNat, 3200]
def k1_off254 (k1_t1 : Fin k1_t1_loop.trips) : Fin 3 → Nat :=
  let c1_1756 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4791 : Index := Scalar.indexCast v27
  let c25_1757 : Index := 25#32
  ![1, v4791.toNat, 25]
def k1_off255 (k1_t1 : Fin k1_t1_loop.trips) : Fin 3 → Nat :=
  let c2_1758 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4797 : Index := Scalar.indexCast v27
  let c3200_1759 : Index := 3200#32
  ![2, v4797.toNat, 3200]
def k1_off256 (k1_t1 : Fin k1_t1_loop.trips) : Fin 3 → Nat :=
  let c2_1760 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4801 : Index := Scalar.indexCast v27
  let c25_1761 : Index := 25#32
  ![2, v4801.toNat, 25]
def k1_off257 (k1_t1 : Fin k1_t1_loop.trips) : Fin 3 → Nat :=
  let c3_1762 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4807 : Index := Scalar.indexCast v27
  let c3200_1763 : Index := 3200#32
  ![3, v4807.toNat, 3200]
def k1_off258 (k1_t1 : Fin k1_t1_loop.trips) : Fin 3 → Nat :=
  let c3_1764 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4811 : Index := Scalar.indexCast v27
  let c25_1765 : Index := 25#32
  ![3, v4811.toNat, 25]
def k1_off259 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4819 : Index := Scalar.indexCast v27
  let c3200_1766 : Index := 3200#32
  ![v4819.toNat, 3200]
def k1_off260 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4957 : Index := Scalar.indexCast v27
  let c25_1818 : Index := 25#32
  ![v4957.toNat, 25]
def k1_off261 (k1_t1 : Fin k1_t1_loop.trips) : Fin 3 → Nat :=
  let c0_1822 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4968 : Index := Scalar.indexCast v27
  let c3328 : Index := 3328#32
  ![0, v4968.toNat, 3328]
def k1_off262 (k1_t1 : Fin k1_t1_loop.trips) : Fin 3 → Nat :=
  let c0_1823 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4972 : Index := Scalar.indexCast v27
  let c26 : Index := 26#32
  ![0, v4972.toNat, 26]
def k1_off263 (k1_t1 : Fin k1_t1_loop.trips) : Fin 3 → Nat :=
  let c1_1824 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4977 : Index := Scalar.indexCast v27
  let c3328_1825 : Index := 3328#32
  ![1, v4977.toNat, 3328]
def k1_off264 (k1_t1 : Fin k1_t1_loop.trips) : Fin 3 → Nat :=
  let c1_1826 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4981 : Index := Scalar.indexCast v27
  let c26_1827 : Index := 26#32
  ![1, v4981.toNat, 26]
def k1_off265 (k1_t1 : Fin k1_t1_loop.trips) : Fin 3 → Nat :=
  let c2_1828 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4987 : Index := Scalar.indexCast v27
  let c3328_1829 : Index := 3328#32
  ![2, v4987.toNat, 3328]
def k1_off266 (k1_t1 : Fin k1_t1_loop.trips) : Fin 3 → Nat :=
  let c2_1830 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4991 : Index := Scalar.indexCast v27
  let c26_1831 : Index := 26#32
  ![2, v4991.toNat, 26]
def k1_off267 (k1_t1 : Fin k1_t1_loop.trips) : Fin 3 → Nat :=
  let c3_1832 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v4997 : Index := Scalar.indexCast v27
  let c3328_1833 : Index := 3328#32
  ![3, v4997.toNat, 3328]
def k1_off268 (k1_t1 : Fin k1_t1_loop.trips) : Fin 3 → Nat :=
  let c3_1834 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5001 : Index := Scalar.indexCast v27
  let c26_1835 : Index := 26#32
  ![3, v5001.toNat, 26]
def k1_off269 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5009 : Index := Scalar.indexCast v27
  let c3328_1836 : Index := 3328#32
  ![v5009.toNat, 3328]
def k1_off270 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5147 : Index := Scalar.indexCast v27
  let c26_1888 : Index := 26#32
  ![v5147.toNat, 26]
def k1_off271 (k1_t1 : Fin k1_t1_loop.trips) : Fin 3 → Nat :=
  let c0_1892 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5158 : Index := Scalar.indexCast v27
  let c3456 : Index := 3456#32
  ![0, v5158.toNat, 3456]
def k1_off272 (k1_t1 : Fin k1_t1_loop.trips) : Fin 3 → Nat :=
  let c0_1893 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5162 : Index := Scalar.indexCast v27
  let c27 : Index := 27#32
  ![0, v5162.toNat, 27]
def k1_off273 (k1_t1 : Fin k1_t1_loop.trips) : Fin 3 → Nat :=
  let c1_1894 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5167 : Index := Scalar.indexCast v27
  let c3456_1895 : Index := 3456#32
  ![1, v5167.toNat, 3456]
def k1_off274 (k1_t1 : Fin k1_t1_loop.trips) : Fin 3 → Nat :=
  let c1_1896 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5171 : Index := Scalar.indexCast v27
  let c27_1897 : Index := 27#32
  ![1, v5171.toNat, 27]
def k1_off275 (k1_t1 : Fin k1_t1_loop.trips) : Fin 3 → Nat :=
  let c2_1898 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5177 : Index := Scalar.indexCast v27
  let c3456_1899 : Index := 3456#32
  ![2, v5177.toNat, 3456]
def k1_off276 (k1_t1 : Fin k1_t1_loop.trips) : Fin 3 → Nat :=
  let c2_1900 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5181 : Index := Scalar.indexCast v27
  let c27_1901 : Index := 27#32
  ![2, v5181.toNat, 27]
def k1_off277 (k1_t1 : Fin k1_t1_loop.trips) : Fin 3 → Nat :=
  let c3_1902 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5187 : Index := Scalar.indexCast v27
  let c3456_1903 : Index := 3456#32
  ![3, v5187.toNat, 3456]
def k1_off278 (k1_t1 : Fin k1_t1_loop.trips) : Fin 3 → Nat :=
  let c3_1904 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5191 : Index := Scalar.indexCast v27
  let c27_1905 : Index := 27#32
  ![3, v5191.toNat, 27]
def k1_off279 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5199 : Index := Scalar.indexCast v27
  let c3456_1906 : Index := 3456#32
  ![v5199.toNat, 3456]
def k1_off280 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5337 : Index := Scalar.indexCast v27
  let c27_1958 : Index := 27#32
  ![v5337.toNat, 27]
def k1_off281 (k1_t1 : Fin k1_t1_loop.trips) : Fin 3 → Nat :=
  let c0_1962 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5348 : Index := Scalar.indexCast v27
  let c3584 : Index := 3584#32
  ![0, v5348.toNat, 3584]
def k1_off282 (k1_t1 : Fin k1_t1_loop.trips) : Fin 3 → Nat :=
  let c0_1963 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5352 : Index := Scalar.indexCast v27
  let c28 : Index := 28#32
  ![0, v5352.toNat, 28]
def k1_off283 (k1_t1 : Fin k1_t1_loop.trips) : Fin 3 → Nat :=
  let c1_1964 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5357 : Index := Scalar.indexCast v27
  let c3584_1965 : Index := 3584#32
  ![1, v5357.toNat, 3584]
def k1_off284 (k1_t1 : Fin k1_t1_loop.trips) : Fin 3 → Nat :=
  let c1_1966 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5361 : Index := Scalar.indexCast v27
  let c28_1967 : Index := 28#32
  ![1, v5361.toNat, 28]
def k1_off285 (k1_t1 : Fin k1_t1_loop.trips) : Fin 3 → Nat :=
  let c2_1968 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5367 : Index := Scalar.indexCast v27
  let c3584_1969 : Index := 3584#32
  ![2, v5367.toNat, 3584]
def k1_off286 (k1_t1 : Fin k1_t1_loop.trips) : Fin 3 → Nat :=
  let c2_1970 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5371 : Index := Scalar.indexCast v27
  let c28_1971 : Index := 28#32
  ![2, v5371.toNat, 28]
def k1_off287 (k1_t1 : Fin k1_t1_loop.trips) : Fin 3 → Nat :=
  let c3_1972 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5377 : Index := Scalar.indexCast v27
  let c3584_1973 : Index := 3584#32
  ![3, v5377.toNat, 3584]
def k1_off288 (k1_t1 : Fin k1_t1_loop.trips) : Fin 3 → Nat :=
  let c3_1974 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5381 : Index := Scalar.indexCast v27
  let c28_1975 : Index := 28#32
  ![3, v5381.toNat, 28]
def k1_off289 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5389 : Index := Scalar.indexCast v27
  let c3584_1976 : Index := 3584#32
  ![v5389.toNat, 3584]
def k1_off290 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5527 : Index := Scalar.indexCast v27
  let c28_2028 : Index := 28#32
  ![v5527.toNat, 28]
def k1_off291 (k1_t1 : Fin k1_t1_loop.trips) : Fin 3 → Nat :=
  let c0_2032 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5538 : Index := Scalar.indexCast v27
  let c3712 : Index := 3712#32
  ![0, v5538.toNat, 3712]
def k1_off292 (k1_t1 : Fin k1_t1_loop.trips) : Fin 3 → Nat :=
  let c0_2033 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5542 : Index := Scalar.indexCast v27
  let c29 : Index := 29#32
  ![0, v5542.toNat, 29]
def k1_off293 (k1_t1 : Fin k1_t1_loop.trips) : Fin 3 → Nat :=
  let c1_2034 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5547 : Index := Scalar.indexCast v27
  let c3712_2035 : Index := 3712#32
  ![1, v5547.toNat, 3712]
def k1_off294 (k1_t1 : Fin k1_t1_loop.trips) : Fin 3 → Nat :=
  let c1_2036 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5551 : Index := Scalar.indexCast v27
  let c29_2037 : Index := 29#32
  ![1, v5551.toNat, 29]
def k1_off295 (k1_t1 : Fin k1_t1_loop.trips) : Fin 3 → Nat :=
  let c2_2038 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5557 : Index := Scalar.indexCast v27
  let c3712_2039 : Index := 3712#32
  ![2, v5557.toNat, 3712]
def k1_off296 (k1_t1 : Fin k1_t1_loop.trips) : Fin 3 → Nat :=
  let c2_2040 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5561 : Index := Scalar.indexCast v27
  let c29_2041 : Index := 29#32
  ![2, v5561.toNat, 29]
def k1_off297 (k1_t1 : Fin k1_t1_loop.trips) : Fin 3 → Nat :=
  let c3_2042 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5567 : Index := Scalar.indexCast v27
  let c3712_2043 : Index := 3712#32
  ![3, v5567.toNat, 3712]
def k1_off298 (k1_t1 : Fin k1_t1_loop.trips) : Fin 3 → Nat :=
  let c3_2044 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5571 : Index := Scalar.indexCast v27
  let c29_2045 : Index := 29#32
  ![3, v5571.toNat, 29]
def k1_off299 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5579 : Index := Scalar.indexCast v27
  let c3712_2046 : Index := 3712#32
  ![v5579.toNat, 3712]
def k1_off300 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5717 : Index := Scalar.indexCast v27
  let c29_2098 : Index := 29#32
  ![v5717.toNat, 29]
def k1_off301 (k1_t1 : Fin k1_t1_loop.trips) : Fin 3 → Nat :=
  let c0_2102 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5728 : Index := Scalar.indexCast v27
  let c3840 : Index := 3840#32
  ![0, v5728.toNat, 3840]
def k1_off302 (k1_t1 : Fin k1_t1_loop.trips) : Fin 3 → Nat :=
  let c0_2103 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5732 : Index := Scalar.indexCast v27
  let c30 : Index := 30#32
  ![0, v5732.toNat, 30]
def k1_off303 (k1_t1 : Fin k1_t1_loop.trips) : Fin 3 → Nat :=
  let c1_2104 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5737 : Index := Scalar.indexCast v27
  let c3840_2105 : Index := 3840#32
  ![1, v5737.toNat, 3840]
def k1_off304 (k1_t1 : Fin k1_t1_loop.trips) : Fin 3 → Nat :=
  let c1_2106 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5741 : Index := Scalar.indexCast v27
  let c30_2107 : Index := 30#32
  ![1, v5741.toNat, 30]
def k1_off305 (k1_t1 : Fin k1_t1_loop.trips) : Fin 3 → Nat :=
  let c2_2108 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5747 : Index := Scalar.indexCast v27
  let c3840_2109 : Index := 3840#32
  ![2, v5747.toNat, 3840]
def k1_off306 (k1_t1 : Fin k1_t1_loop.trips) : Fin 3 → Nat :=
  let c2_2110 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5751 : Index := Scalar.indexCast v27
  let c30_2111 : Index := 30#32
  ![2, v5751.toNat, 30]
def k1_off307 (k1_t1 : Fin k1_t1_loop.trips) : Fin 3 → Nat :=
  let c3_2112 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5757 : Index := Scalar.indexCast v27
  let c3840_2113 : Index := 3840#32
  ![3, v5757.toNat, 3840]
def k1_off308 (k1_t1 : Fin k1_t1_loop.trips) : Fin 3 → Nat :=
  let c3_2114 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5761 : Index := Scalar.indexCast v27
  let c30_2115 : Index := 30#32
  ![3, v5761.toNat, 30]
def k1_off309 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5769 : Index := Scalar.indexCast v27
  let c3840_2116 : Index := 3840#32
  ![v5769.toNat, 3840]
def k1_off310 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5907 : Index := Scalar.indexCast v27
  let c30_2168 : Index := 30#32
  ![v5907.toNat, 30]
def k1_off311 (k1_t1 : Fin k1_t1_loop.trips) : Fin 3 → Nat :=
  let c0_2172 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5918 : Index := Scalar.indexCast v27
  let c3968 : Index := 3968#32
  ![0, v5918.toNat, 3968]
def k1_off312 (k1_t1 : Fin k1_t1_loop.trips) : Fin 3 → Nat :=
  let c0_2173 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5922 : Index := Scalar.indexCast v27
  let c31 : Index := 31#32
  ![0, v5922.toNat, 31]
def k1_off313 (k1_t1 : Fin k1_t1_loop.trips) : Fin 3 → Nat :=
  let c1_2174 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5927 : Index := Scalar.indexCast v27
  let c3968_2175 : Index := 3968#32
  ![1, v5927.toNat, 3968]
def k1_off314 (k1_t1 : Fin k1_t1_loop.trips) : Fin 3 → Nat :=
  let c1_2176 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5931 : Index := Scalar.indexCast v27
  let c31_2177 : Index := 31#32
  ![1, v5931.toNat, 31]
def k1_off315 (k1_t1 : Fin k1_t1_loop.trips) : Fin 3 → Nat :=
  let c2_2178 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5937 : Index := Scalar.indexCast v27
  let c3968_2179 : Index := 3968#32
  ![2, v5937.toNat, 3968]
def k1_off316 (k1_t1 : Fin k1_t1_loop.trips) : Fin 3 → Nat :=
  let c2_2180 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5941 : Index := Scalar.indexCast v27
  let c31_2181 : Index := 31#32
  ![2, v5941.toNat, 31]
def k1_off317 (k1_t1 : Fin k1_t1_loop.trips) : Fin 3 → Nat :=
  let c3_2182 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5947 : Index := Scalar.indexCast v27
  let c3968_2183 : Index := 3968#32
  ![3, v5947.toNat, 3968]
def k1_off318 (k1_t1 : Fin k1_t1_loop.trips) : Fin 3 → Nat :=
  let c3_2184 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5951 : Index := Scalar.indexCast v27
  let c31_2185 : Index := 31#32
  ![3, v5951.toNat, 31]
def k1_off319 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v5959 : Index := Scalar.indexCast v27
  let c3968_2186 : Index := 3968#32
  ![v5959.toNat, 3968]
def k1_off320 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6097 : Index := Scalar.indexCast v27
  let c31_2238 : Index := 31#32
  ![v6097.toNat, 31]
def k1_off321 (k1_t1 : Fin k1_t1_loop.trips) : Fin 3 → Nat :=
  let c0_2242 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6108 : Index := Scalar.indexCast v27
  let c4096 : Index := 4096#32
  ![0, v6108.toNat, 4096]
def k1_off322 (k1_t1 : Fin k1_t1_loop.trips) : Fin 3 → Nat :=
  let c0_2243 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6112 : Index := Scalar.indexCast v27
  let c32 : Index := 32#32
  ![0, v6112.toNat, 32]
def k1_off323 (k1_t1 : Fin k1_t1_loop.trips) : Fin 3 → Nat :=
  let c1_2244 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6117 : Index := Scalar.indexCast v27
  let c4096_2245 : Index := 4096#32
  ![1, v6117.toNat, 4096]
def k1_off324 (k1_t1 : Fin k1_t1_loop.trips) : Fin 3 → Nat :=
  let c1_2246 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6121 : Index := Scalar.indexCast v27
  let c32_2247 : Index := 32#32
  ![1, v6121.toNat, 32]
def k1_off325 (k1_t1 : Fin k1_t1_loop.trips) : Fin 3 → Nat :=
  let c2_2248 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6127 : Index := Scalar.indexCast v27
  let c4096_2249 : Index := 4096#32
  ![2, v6127.toNat, 4096]
def k1_off326 (k1_t1 : Fin k1_t1_loop.trips) : Fin 3 → Nat :=
  let c2_2250 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6131 : Index := Scalar.indexCast v27
  let c32_2251 : Index := 32#32
  ![2, v6131.toNat, 32]
def k1_off327 (k1_t1 : Fin k1_t1_loop.trips) : Fin 3 → Nat :=
  let c3_2252 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6137 : Index := Scalar.indexCast v27
  let c4096_2253 : Index := 4096#32
  ![3, v6137.toNat, 4096]
def k1_off328 (k1_t1 : Fin k1_t1_loop.trips) : Fin 3 → Nat :=
  let c3_2254 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6141 : Index := Scalar.indexCast v27
  let c32_2255 : Index := 32#32
  ![3, v6141.toNat, 32]
def k1_off329 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6149 : Index := Scalar.indexCast v27
  let c4096_2256 : Index := 4096#32
  ![v6149.toNat, 4096]
def k1_off330 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6287 : Index := Scalar.indexCast v27
  let c32_2308 : Index := 32#32
  ![v6287.toNat, 32]
def k1_off331 (k1_t1 : Fin k1_t1_loop.trips) : Fin 3 → Nat :=
  let c0_2312 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6298 : Index := Scalar.indexCast v27
  let c4224 : Index := 4224#32
  ![0, v6298.toNat, 4224]
def k1_off332 (k1_t1 : Fin k1_t1_loop.trips) : Fin 3 → Nat :=
  let c0_2313 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6302 : Index := Scalar.indexCast v27
  let c33 : Index := 33#32
  ![0, v6302.toNat, 33]
def k1_off333 (k1_t1 : Fin k1_t1_loop.trips) : Fin 3 → Nat :=
  let c1_2314 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6307 : Index := Scalar.indexCast v27
  let c4224_2315 : Index := 4224#32
  ![1, v6307.toNat, 4224]
def k1_off334 (k1_t1 : Fin k1_t1_loop.trips) : Fin 3 → Nat :=
  let c1_2316 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6311 : Index := Scalar.indexCast v27
  let c33_2317 : Index := 33#32
  ![1, v6311.toNat, 33]
def k1_off335 (k1_t1 : Fin k1_t1_loop.trips) : Fin 3 → Nat :=
  let c2_2318 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6317 : Index := Scalar.indexCast v27
  let c4224_2319 : Index := 4224#32
  ![2, v6317.toNat, 4224]
def k1_off336 (k1_t1 : Fin k1_t1_loop.trips) : Fin 3 → Nat :=
  let c2_2320 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6321 : Index := Scalar.indexCast v27
  let c33_2321 : Index := 33#32
  ![2, v6321.toNat, 33]
def k1_off337 (k1_t1 : Fin k1_t1_loop.trips) : Fin 3 → Nat :=
  let c3_2322 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6327 : Index := Scalar.indexCast v27
  let c4224_2323 : Index := 4224#32
  ![3, v6327.toNat, 4224]
def k1_off338 (k1_t1 : Fin k1_t1_loop.trips) : Fin 3 → Nat :=
  let c3_2324 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6331 : Index := Scalar.indexCast v27
  let c33_2325 : Index := 33#32
  ![3, v6331.toNat, 33]
def k1_off339 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6339 : Index := Scalar.indexCast v27
  let c4224_2326 : Index := 4224#32
  ![v6339.toNat, 4224]
def k1_off340 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6477 : Index := Scalar.indexCast v27
  let c33_2378 : Index := 33#32
  ![v6477.toNat, 33]
def k1_off341 (k1_t1 : Fin k1_t1_loop.trips) : Fin 3 → Nat :=
  let c0_2382 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6488 : Index := Scalar.indexCast v27
  let c4352 : Index := 4352#32
  ![0, v6488.toNat, 4352]
def k1_off342 (k1_t1 : Fin k1_t1_loop.trips) : Fin 3 → Nat :=
  let c0_2383 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6492 : Index := Scalar.indexCast v27
  let c34 : Index := 34#32
  ![0, v6492.toNat, 34]
def k1_off343 (k1_t1 : Fin k1_t1_loop.trips) : Fin 3 → Nat :=
  let c1_2384 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6497 : Index := Scalar.indexCast v27
  let c4352_2385 : Index := 4352#32
  ![1, v6497.toNat, 4352]
def k1_off344 (k1_t1 : Fin k1_t1_loop.trips) : Fin 3 → Nat :=
  let c1_2386 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6501 : Index := Scalar.indexCast v27
  let c34_2387 : Index := 34#32
  ![1, v6501.toNat, 34]
def k1_off345 (k1_t1 : Fin k1_t1_loop.trips) : Fin 3 → Nat :=
  let c2_2388 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6507 : Index := Scalar.indexCast v27
  let c4352_2389 : Index := 4352#32
  ![2, v6507.toNat, 4352]
def k1_off346 (k1_t1 : Fin k1_t1_loop.trips) : Fin 3 → Nat :=
  let c2_2390 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6511 : Index := Scalar.indexCast v27
  let c34_2391 : Index := 34#32
  ![2, v6511.toNat, 34]
def k1_off347 (k1_t1 : Fin k1_t1_loop.trips) : Fin 3 → Nat :=
  let c3_2392 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6517 : Index := Scalar.indexCast v27
  let c4352_2393 : Index := 4352#32
  ![3, v6517.toNat, 4352]
def k1_off348 (k1_t1 : Fin k1_t1_loop.trips) : Fin 3 → Nat :=
  let c3_2394 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6521 : Index := Scalar.indexCast v27
  let c34_2395 : Index := 34#32
  ![3, v6521.toNat, 34]
def k1_off349 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6529 : Index := Scalar.indexCast v27
  let c4352_2396 : Index := 4352#32
  ![v6529.toNat, 4352]
def k1_off350 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6667 : Index := Scalar.indexCast v27
  let c34_2448 : Index := 34#32
  ![v6667.toNat, 34]
def k1_off351 (k1_t1 : Fin k1_t1_loop.trips) : Fin 3 → Nat :=
  let c0_2452 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6678 : Index := Scalar.indexCast v27
  let c4480 : Index := 4480#32
  ![0, v6678.toNat, 4480]
def k1_off352 (k1_t1 : Fin k1_t1_loop.trips) : Fin 3 → Nat :=
  let c0_2453 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6682 : Index := Scalar.indexCast v27
  let c35 : Index := 35#32
  ![0, v6682.toNat, 35]
def k1_off353 (k1_t1 : Fin k1_t1_loop.trips) : Fin 3 → Nat :=
  let c1_2454 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6687 : Index := Scalar.indexCast v27
  let c4480_2455 : Index := 4480#32
  ![1, v6687.toNat, 4480]
def k1_off354 (k1_t1 : Fin k1_t1_loop.trips) : Fin 3 → Nat :=
  let c1_2456 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6691 : Index := Scalar.indexCast v27
  let c35_2457 : Index := 35#32
  ![1, v6691.toNat, 35]
def k1_off355 (k1_t1 : Fin k1_t1_loop.trips) : Fin 3 → Nat :=
  let c2_2458 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6697 : Index := Scalar.indexCast v27
  let c4480_2459 : Index := 4480#32
  ![2, v6697.toNat, 4480]
def k1_off356 (k1_t1 : Fin k1_t1_loop.trips) : Fin 3 → Nat :=
  let c2_2460 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6701 : Index := Scalar.indexCast v27
  let c35_2461 : Index := 35#32
  ![2, v6701.toNat, 35]
def k1_off357 (k1_t1 : Fin k1_t1_loop.trips) : Fin 3 → Nat :=
  let c3_2462 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6707 : Index := Scalar.indexCast v27
  let c4480_2463 : Index := 4480#32
  ![3, v6707.toNat, 4480]
def k1_off358 (k1_t1 : Fin k1_t1_loop.trips) : Fin 3 → Nat :=
  let c3_2464 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6711 : Index := Scalar.indexCast v27
  let c35_2465 : Index := 35#32
  ![3, v6711.toNat, 35]
def k1_off359 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6719 : Index := Scalar.indexCast v27
  let c4480_2466 : Index := 4480#32
  ![v6719.toNat, 4480]
def k1_off360 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6857 : Index := Scalar.indexCast v27
  let c35_2518 : Index := 35#32
  ![v6857.toNat, 35]
def k1_off361 (k1_t1 : Fin k1_t1_loop.trips) : Fin 3 → Nat :=
  let c0_2522 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6868 : Index := Scalar.indexCast v27
  let c4608 : Index := 4608#32
  ![0, v6868.toNat, 4608]
def k1_off362 (k1_t1 : Fin k1_t1_loop.trips) : Fin 3 → Nat :=
  let c0_2523 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6872 : Index := Scalar.indexCast v27
  let c36 : Index := 36#32
  ![0, v6872.toNat, 36]
def k1_off363 (k1_t1 : Fin k1_t1_loop.trips) : Fin 3 → Nat :=
  let c1_2524 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6877 : Index := Scalar.indexCast v27
  let c4608_2525 : Index := 4608#32
  ![1, v6877.toNat, 4608]
def k1_off364 (k1_t1 : Fin k1_t1_loop.trips) : Fin 3 → Nat :=
  let c1_2526 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6881 : Index := Scalar.indexCast v27
  let c36_2527 : Index := 36#32
  ![1, v6881.toNat, 36]
def k1_off365 (k1_t1 : Fin k1_t1_loop.trips) : Fin 3 → Nat :=
  let c2_2528 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6887 : Index := Scalar.indexCast v27
  let c4608_2529 : Index := 4608#32
  ![2, v6887.toNat, 4608]
def k1_off366 (k1_t1 : Fin k1_t1_loop.trips) : Fin 3 → Nat :=
  let c2_2530 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6891 : Index := Scalar.indexCast v27
  let c36_2531 : Index := 36#32
  ![2, v6891.toNat, 36]
def k1_off367 (k1_t1 : Fin k1_t1_loop.trips) : Fin 3 → Nat :=
  let c3_2532 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6897 : Index := Scalar.indexCast v27
  let c4608_2533 : Index := 4608#32
  ![3, v6897.toNat, 4608]
def k1_off368 (k1_t1 : Fin k1_t1_loop.trips) : Fin 3 → Nat :=
  let c3_2534 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6901 : Index := Scalar.indexCast v27
  let c36_2535 : Index := 36#32
  ![3, v6901.toNat, 36]
def k1_off369 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v6909 : Index := Scalar.indexCast v27
  let c4608_2536 : Index := 4608#32
  ![v6909.toNat, 4608]
def k1_off370 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v7047 : Index := Scalar.indexCast v27
  let c36_2588 : Index := 36#32
  ![v7047.toNat, 36]
def k1_off371 (k1_t1 : Fin k1_t1_loop.trips) : Fin 3 → Nat :=
  let c0_2592 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v7058 : Index := Scalar.indexCast v27
  let c4736 : Index := 4736#32
  ![0, v7058.toNat, 4736]
def k1_off372 (k1_t1 : Fin k1_t1_loop.trips) : Fin 3 → Nat :=
  let c0_2593 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v7062 : Index := Scalar.indexCast v27
  let c37 : Index := 37#32
  ![0, v7062.toNat, 37]
def k1_off373 (k1_t1 : Fin k1_t1_loop.trips) : Fin 3 → Nat :=
  let c1_2594 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v7067 : Index := Scalar.indexCast v27
  let c4736_2595 : Index := 4736#32
  ![1, v7067.toNat, 4736]
def k1_off374 (k1_t1 : Fin k1_t1_loop.trips) : Fin 3 → Nat :=
  let c1_2596 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v7071 : Index := Scalar.indexCast v27
  let c37_2597 : Index := 37#32
  ![1, v7071.toNat, 37]
def k1_off375 (k1_t1 : Fin k1_t1_loop.trips) : Fin 3 → Nat :=
  let c2_2598 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v7077 : Index := Scalar.indexCast v27
  let c4736_2599 : Index := 4736#32
  ![2, v7077.toNat, 4736]
def k1_off376 (k1_t1 : Fin k1_t1_loop.trips) : Fin 3 → Nat :=
  let c2_2600 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v7081 : Index := Scalar.indexCast v27
  let c37_2601 : Index := 37#32
  ![2, v7081.toNat, 37]
def k1_off377 (k1_t1 : Fin k1_t1_loop.trips) : Fin 3 → Nat :=
  let c3_2602 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v7087 : Index := Scalar.indexCast v27
  let c4736_2603 : Index := 4736#32
  ![3, v7087.toNat, 4736]
def k1_off378 (k1_t1 : Fin k1_t1_loop.trips) : Fin 3 → Nat :=
  let c3_2604 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v7091 : Index := Scalar.indexCast v27
  let c37_2605 : Index := 37#32
  ![3, v7091.toNat, 37]
def k1_off379 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v7099 : Index := Scalar.indexCast v27
  let c4736_2606 : Index := 4736#32
  ![v7099.toNat, 4736]
def k1_off380 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v7237 : Index := Scalar.indexCast v27
  let c37_2658 : Index := 37#32
  ![v7237.toNat, 37]
def k1_off381 (k1_t1 : Fin k1_t1_loop.trips) : Fin 3 → Nat :=
  let c0_2662 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v7248 : Index := Scalar.indexCast v27
  let c4864 : Index := 4864#32
  ![0, v7248.toNat, 4864]
def k1_off382 (k1_t1 : Fin k1_t1_loop.trips) : Fin 3 → Nat :=
  let c0_2663 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v7252 : Index := Scalar.indexCast v27
  let c38 : Index := 38#32
  ![0, v7252.toNat, 38]
def k1_off383 (k1_t1 : Fin k1_t1_loop.trips) : Fin 3 → Nat :=
  let c1_2664 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v7257 : Index := Scalar.indexCast v27
  let c4864_2665 : Index := 4864#32
  ![1, v7257.toNat, 4864]
def k1_off384 (k1_t1 : Fin k1_t1_loop.trips) : Fin 3 → Nat :=
  let c1_2666 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v7261 : Index := Scalar.indexCast v27
  let c38_2667 : Index := 38#32
  ![1, v7261.toNat, 38]
def k1_off385 (k1_t1 : Fin k1_t1_loop.trips) : Fin 3 → Nat :=
  let c2_2668 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v7267 : Index := Scalar.indexCast v27
  let c4864_2669 : Index := 4864#32
  ![2, v7267.toNat, 4864]
def k1_off386 (k1_t1 : Fin k1_t1_loop.trips) : Fin 3 → Nat :=
  let c2_2670 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v7271 : Index := Scalar.indexCast v27
  let c38_2671 : Index := 38#32
  ![2, v7271.toNat, 38]
def k1_off387 (k1_t1 : Fin k1_t1_loop.trips) : Fin 3 → Nat :=
  let c3_2672 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v7277 : Index := Scalar.indexCast v27
  let c4864_2673 : Index := 4864#32
  ![3, v7277.toNat, 4864]
def k1_off388 (k1_t1 : Fin k1_t1_loop.trips) : Fin 3 → Nat :=
  let c3_2674 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v7281 : Index := Scalar.indexCast v27
  let c38_2675 : Index := 38#32
  ![3, v7281.toNat, 38]
def k1_off389 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v7289 : Index := Scalar.indexCast v27
  let c4864_2676 : Index := 4864#32
  ![v7289.toNat, 4864]
def k1_off390 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v7427 : Index := Scalar.indexCast v27
  let c38_2728 : Index := 38#32
  ![v7427.toNat, 38]
def k1_off391 (k1_t1 : Fin k1_t1_loop.trips) : Fin 3 → Nat :=
  let c0_2732 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v7438 : Index := Scalar.indexCast v27
  let c4992 : Index := 4992#32
  ![0, v7438.toNat, 4992]
def k1_off392 (k1_t1 : Fin k1_t1_loop.trips) : Fin 3 → Nat :=
  let c0_2733 : Index := 0#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v7442 : Index := Scalar.indexCast v27
  let c39 : Index := 39#32
  ![0, v7442.toNat, 39]
def k1_off393 (k1_t1 : Fin k1_t1_loop.trips) : Fin 3 → Nat :=
  let c1_2734 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v7447 : Index := Scalar.indexCast v27
  let c4992_2735 : Index := 4992#32
  ![1, v7447.toNat, 4992]
def k1_off394 (k1_t1 : Fin k1_t1_loop.trips) : Fin 3 → Nat :=
  let c1_2736 : Index := 1#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v7451 : Index := Scalar.indexCast v27
  let c39_2737 : Index := 39#32
  ![1, v7451.toNat, 39]
def k1_off395 (k1_t1 : Fin k1_t1_loop.trips) : Fin 3 → Nat :=
  let c2_2738 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v7457 : Index := Scalar.indexCast v27
  let c4992_2739 : Index := 4992#32
  ![2, v7457.toNat, 4992]
def k1_off396 (k1_t1 : Fin k1_t1_loop.trips) : Fin 3 → Nat :=
  let c2_2740 : Index := 2#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v7461 : Index := Scalar.indexCast v27
  let c39_2741 : Index := 39#32
  ![2, v7461.toNat, 39]
def k1_off397 (k1_t1 : Fin k1_t1_loop.trips) : Fin 3 → Nat :=
  let c3_2742 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v7467 : Index := Scalar.indexCast v27
  let c4992_2743 : Index := 4992#32
  ![3, v7467.toNat, 4992]
def k1_off398 (k1_t1 : Fin k1_t1_loop.trips) : Fin 3 → Nat :=
  let c3_2744 : Index := 3#32
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v7471 : Index := Scalar.indexCast v27
  let c39_2745 : Index := 39#32
  ![3, v7471.toNat, 39]
def k1_off399 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v7479 : Index := Scalar.indexCast v27
  let c4992_2746 : Index := 4992#32
  ![v7479.toNat, 4992]
def k1_off400 (k1_t1 : Fin k1_t1_loop.trips) : Fin 2 → Nat :=
  let c0_i32 : BitVec 32 := 0#32
  let c1_i32 : BitVec 32 := 1#32
  let arg16 : BitVec 32 := Scf.iv c0_i32 c1_i32 k1_t1
  let c32_i32 : BitVec 32 := 32#32
  let v26 : BitVec 32 := Scalar.muli arg16 c32_i32
  let v27 : BitVec 32 := v26
  let v7617 : Index := Scalar.indexCast v27
  let c39_2798 : Index := 39#32
  ![v7617.toNat, 39]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S32x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .smem S1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4x64x5120 .fp8e5m2 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4x64x40 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S64x5120 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S64x5120 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S64x5120 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S64x5120 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S64x5120 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S64x5120 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S64x5120 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .smem S1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S64x5120 .fp8e4m3 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S64x40 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]
-- ==== KernelIdeal.lean ====
variable {F : FTy → Type} [FloatOps F] [Named F]
def κ : String → Option EReal := fun
  | "inv_bc1" => some ((100000000000000000000 / 87842334540943071199 : ℝ) : EReal)
  | "inv_bc2" => some ((104857600000000000000000000 / 67267626542454041806644399 : ℝ) : EReal)
  | _ => none
-- ==== ReferenceIdeal.lean ====
variable {F : FTy → Type} [FloatOps F] [Named F]
def κ : String → Option EReal := fun
  | "bc1" => some ((87842334540943071199 / 100000000000000000000 : ℝ) : EReal)
  | "bc2" => some ((67267626542454041806644399 / 104857600000000000000000000 : ℝ) : EReal)
  | "ln2" => some ((Real.log 2 : ℝ) : EReal)
  | _ => none
-- ==== Reference.lean ====
abbrev S4x8192x5120 : Shape := ⟨3, ![4, 8192, 5120]⟩
abbrev S4x8192x40 : Shape := ⟨3, ![4, 8192, 40]⟩
abbrev S8192x5120 : Shape := ⟨2, ![8192, 5120]⟩
abbrev S1 : Shape := ⟨1, ![1]⟩
abbrev S8192x40 : Shape := ⟨2, ![8192, 40]⟩
abbrev S4x8192x40x128 : Shape := ⟨4, ![4, 8192, 40, 128]⟩
abbrev S4x8192x40x1 : Shape := ⟨4, ![4, 8192, 40, 1]⟩
abbrev S8192x40x128 : Shape := ⟨3, ![8192, 40, 128]⟩
abbrev S1x8192x5120 : Shape := ⟨3, ![1, 8192, 5120]⟩
abbrev S1x1x1 : Shape := ⟨3, ![1, 1, 1]⟩
abbrev S8192x40x1 : Shape := ⟨3, ![8192, 40, 1]⟩

abbrev nBuf : Space → Nat
  | .hbm => 14
  | .vmem => 11
  | .smem => 3
  | _ => 0

abbrev bufTy : (tb : Table) → Fin (tcTables nBuf tb) → BufTy
  | .hbm, ⟨0, _⟩ => ⟨S4x8192x5120, .fp8e5m2⟩
  | .hbm, ⟨1, _⟩ => ⟨S4x8192x40, .f32⟩
  | .hbm, ⟨2, _⟩ => ⟨S8192x5120, .f32⟩
  | .hbm, ⟨3, _⟩ => ⟨S8192x5120, .f32⟩
  | .hbm, ⟨4, _⟩ => ⟨S8192x5120, .f32⟩
  | .hbm, ⟨5, _⟩ => ⟨S1, .f32⟩
  | .hbm, ⟨6, _⟩ => ⟨S1, .f32⟩
  | .hbm, ⟨7, _⟩ => ⟨S8192x5120, .f32⟩
  | .hbm, ⟨8, _⟩ => ⟨S8192x5120, .f32⟩
  | .hbm, ⟨9, _⟩ => ⟨S8192x5120, .f32⟩
  | .hbm, ⟨10, _⟩ => ⟨S8192x5120, .f32⟩
  | .hbm, ⟨11, _⟩ => ⟨S1, .f32⟩
  | .hbm, ⟨12, _⟩ => ⟨S8192x5120, .fp8e4m3⟩
  | .hbm, ⟨13, _⟩ => ⟨S8192x40, .f32⟩
  | .local _ .vmem, ⟨0, _⟩ => ⟨S4x8192x5120, .fp8e5m2⟩
  | .local _ .vmem, ⟨1, _⟩ => ⟨S4x8192x40, .f32⟩
  | .local _ .vmem, ⟨2, _⟩ => ⟨S8192x5120, .f32⟩
  | .local _ .vmem, ⟨3, _⟩ => ⟨S8192x5120, .f32⟩
  | .local _ .vmem, ⟨4, _⟩ => ⟨S8192x5120, .f32⟩
  | .local _ .vmem, ⟨5, _⟩ => ⟨S8192x5120, .f32⟩
  | .local _ .vmem, ⟨6, _⟩ => ⟨S8192x5120, .f32⟩
  | .local _ .vmem, ⟨7, _⟩ => ⟨S8192x5120, .f32⟩
  | .local _ .vmem, ⟨8, _⟩ => ⟨S8192x5120, .f32⟩
  | .local _ .vmem, ⟨9, _⟩ => ⟨S8192x5120, .fp8e4m3⟩
  | .local _ .vmem, ⟨10, _⟩ => ⟨S8192x40, .f32⟩
  | .local _ .smem, ⟨0, _⟩ => ⟨S1, .f32⟩
  | .local _ .smem, ⟨1, _⟩ => ⟨S1, .f32⟩
  | .local _ .smem, ⟨2, _⟩ => ⟨S1, .f32⟩
  | _, _ => ⟨S4x8192x5120, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg10_0 : Ref sig .tc := ⟨.vmem, 8, rfl⟩
abbrev cc0_stg12_0 : Ref sig .tc := ⟨.vmem, 9, rfl⟩
abbrev cc0_stg13_0 : Ref sig .tc := ⟨.vmem, 10, rfl⟩
abbrev cc0_stg5_0 : Ref sig .tc := ⟨.smem, 0, rfl⟩
abbrev cc0_stg6_0 : Ref sig .tc := ⟨.smem, 1, rfl⟩
abbrev cc0_stg11_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S4x8192x5120 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x8192x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x5120 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x5120 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8192x5120 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .smem S1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8192x5120 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8192x40 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Trip.lean ====
/- The blocks that one trip of the second kernel's loop stores. A trip covers 32 rows in 40 blocks of 128 columns and
   does the same to every block; the block is stated once here, in terms of its number, and the trip's stores are
   shown to be that one block at the numbers 0 to 39. -/
module

public import proofs.«01_k».proof.Proof.Gen.KernelIdeal.Frame

@[expose] public section

set_option maxRecDepth 16384

noncomputable section

namespace Cert.KernelIdeal.Value

open Idealize.ShloMosaic Idealize.ShloMosaic.TcCoe Idealize.SL.Sem Idealize.ShloMosaic.Tactic
open Cert.KernelIdeal Cert.KernelIdeal.Gen

variable {F : FTy → Type} [FloatOps F] [Named F]

/-- The first row of trip `k`, as the kernel computes it. -/
def row1 (k : Fin k1_t1_loop.trips) : ℕ := (Scalar.indexCast (Scalar.muli (Scf.iv 0#32 1#32 k) 32#32) : Index).toNat

theorem row1_eq : ∀ k : Fin k1_t1_loop.trips, row1 k = 32 * k.val := by decide +kernel

theorem row1_le (k : Fin k1_t1_loop.trips) : row1 k + 32 ≤ 64 := by
  have := row1_eq k
  have := k.isLt
  have : k1_t1_loop.trips = 2 := by decide +kernel
  omega

/-- Where trip `k` finds block `b`: in the codes of rank `a`, in their scales, in an array of the parameters' shape and in the scales stored. -/
def offCode (k : Fin k1_t1_loop.trips) (a : ℕ) (b : ℕ) : Fin 3 → ℕ := ![a, row1 k, 128 * b]
def offScale (k : Fin k1_t1_loop.trips) (a : ℕ) (b : ℕ) : Fin 3 → ℕ := ![a, row1 k, b]
def offParam (k : Fin k1_t1_loop.trips) (b : ℕ) : Fin 2 → ℕ := ![row1 k, 128 * b]
def offOut (k : Fin k1_t1_loop.trips) (b : ℕ) : Fin 2 → ℕ := ![row1 k, b]

theorem offCode_inb (k : Fin k1_t1_loop.trips) (a : Fin 4) (b : Fin 40) : ∀ i, offCode k a b i + S1x32x128.size i ≤ S4x64x5120.size i := by
  have := row1_le k
  intro i; fin_cases i <;> simp [offCode] <;> omega

theorem offScale_inb (k : Fin k1_t1_loop.trips) (a : Fin 4) (b : Fin 40) : ∀ i, offScale k a b i + S1x32x1.size i ≤ S4x64x40.size i := by
  have := row1_le k
  intro i; fin_cases i <;> simp [offScale] <;> omega

theorem offParam_inb (k : Fin k1_t1_loop.trips) (b : Fin 40) : ∀ i, offParam k b i + S32x128.size i ≤ S64x5120.size i := by
  have := row1_le k
  intro i; fin_cases i <;> simp [offParam] <;> omega

theorem offOut_inb (k : Fin k1_t1_loop.trips) (b : Fin 40) : ∀ i, offOut k b i + S32x1.size i ≤ S64x40.size i := by
  have := row1_le k
  intro i; fin_cases i <;> simp [offOut] <;> omega

section Block

variable (arg4 : Memref sig .tc .vmem S4x64x5120 .fp8e5m2) (arg5 : Memref sig .tc .vmem S4x64x40 .f32)
  (arg6 arg7 arg8 : Memref sig .tc .vmem S64x5120 .f32)
  (v0 : Vec F S32x128 .f32) (v6 v10 : Elt F .f32)
  (X4 : BufTy.Contents (Elt F) arg4.view.ty) (X5 : BufTy.Contents (Elt F) arg5.view.ty) (X6 : BufTy.Contents (Elt F) arg6.view.ty)
  (X7 : BufTy.Contents (Elt F) arg7.view.ty) (X8 : BufTy.Contents (Elt F) arg8.view.ty)
  (k : Fin k1_t1_loop.trips) (b : Fin 40)

/-- The rank `a` codes and scales of block `b`, and the block of a parameter-shaped array. -/
def ldCode (a : Fin 4) : Vec F S1x32x128 .fp8e5m2 :=
  View.readAt (Elt F) arg4.view (Rect.unit (s := S4x64x5120) (offCode k a b) S1x32x128.size (offCode_inb k a b)).toLoadRect X4
def ldScale (a : Fin 4) : Vec F S1x32x1 .f32 :=
  View.readAt (Elt F) arg5.view (Rect.unit (s := S4x64x40) (offScale k a b) S1x32x1.size (offScale_inb k a b)).toLoadRect X5
def ldParam (arg : Memref sig .tc .vmem S64x5120 .f32) (X : BufTy.Contents (Elt F) arg.view.ty) : Vec F S32x128 .f32 :=
  View.readAt (Elt F) arg.view (Rect.unit (s := S64x5120) (offParam k b) S32x128.size (offParam_inb k b)).toLoadRect X

/-- The gradient block summed over the ranks. -/
def blkSum : FVec F S32x128 .f32 :=
  k1_pay7 (ldCode arg4 X4 k b 0) (ldScale arg5 X5 k b 0) (ldCode arg4 X4 k b 1) (ldScale arg5 X5 k b 1)
    (ldCode arg4 X4 k b 2) (ldScale arg5 X5 k b 2) (ldCode arg4 X4 k b 3) (ldScale arg5 X5 k b 3)

/-- The factor on the gradient sum, spread over the block. -/
def blkClip : FVec F S32x128 .f32 := k1_pay8 (k1_pay3 v0 v6 v10)

/-- The first and second moments, the update and the new parameters of the block. -/
def blkM : FVec F S32x128 .f32 := k1_pay10 (blkSum arg4 arg5 X4 X5 k b) (blkClip v0 v6 v10) (ldParam k b arg7 X7)
def blkV : FVec F S32x128 .f32 := k1_pay11 (blkSum arg4 arg5 X4 X5 k b) (blkClip v0 v6 v10) (ldParam k b arg8 X8)
def blkUpd : FVec F S32x128 .f32 :=
  k1_pay12 (blkSum arg4 arg5 X4 X5 k b) (blkClip v0 v6 v10) (ldParam k b arg6 X6) (ldParam k b arg7 X7) (ldParam k b arg8 X8)
def blkMaster : FVec F S32x128 .f32 :=
  k1_pay13 (blkSum arg4 arg5 X4 X5 k b) (blkClip v0 v6 v10) (ldParam k b arg6 X6) (ldParam k b arg7 X7) (ldParam k b arg8 X8)

end Block

/-- The scales and the codes that a block `x` of new parameters is stored as. -/
def mkWord (x : FVec F S32x128 .f32) : IVec S32x1 32 := k1_pay17 (k1_pay14 x) (k1_pay15 x) (k1_pay16 x)
def mkOdd (x : FVec F S32x128 .f32) : IVec S32x1 1 := k1_pay18 (k1_pay14 x) (k1_pay15 x) (k1_pay16 x)
def mkScale (x : FVec F S32x128 .f32) : FVec F S32x1 .f32 := k1_pay21 (mkWord x) (mkOdd x) k1_pay19
def mkCode (x : FVec F S32x128 .f32) : FVec F S32x128 .fp8e4m3 := k1_pay22 x (mkWord x) (mkOdd x) k1_pay19

/-- The block numbers in the order in which a list of stores holds them, the last first. -/
def order : List (Fin 40) := [39, 38, 37, 36, 35, 34, 33, 32, 31, 30, 29, 28, 27, 26, 25, 24, 23, 22, 21, 20, 19, 18, 17, 16, 15, 14, 13, 12, 11, 10,
  9, 8, 7, 6, 5, 4, 3, 2, 1, 0]

/-- One store of a block into an array of the parameters' shape, and one into the scales. -/
def piece {φ : EltTy} (k : Fin k1_t1_loop.trips) (w : Fin 40 → Vec F S32x128 φ) (b : Fin 40) : View.Piece (Elt F) S64x5120 φ :=
  ⟨Rect.unit (s := S64x5120) (offParam k b) S32x128.size (offParam_inb k b), w b⟩
def pieceOut (k : Fin k1_t1_loop.trips) (w : Fin 40 → FVec F S32x1 .f32) (b : Fin 40) : View.Piece (Elt F) S64x40 .f32 :=
  ⟨Rect.unit (s := S64x40) (offOut k b) S32x1.size (offOut_inb k b), w b⟩

section Trip

variable (𝒱 : Variants) (c : Dev nD) (bd : Option 𝒱.V) (i : grid1.Coords) (arg1 : Memref sig .tc .vmem S32x128 .f32) (harg1 : arg1.IsWhole) (arg2 : Memref sig .tc .smem S1 .f32) (harg2 : arg2.IsWhole) (arg3 : Memref sig .tc .smem S1 .f32) (harg3 : arg3.IsWhole) (arg4 : Memref sig .tc .vmem S4x64x5120 .fp8e5m2) (harg4 : arg4.IsWhole) (arg5 : Memref sig .tc .vmem S4x64x40 .f32) (harg5 : arg5.IsWhole) (arg6 : Memref sig .tc .vmem S64x5120 .f32) (harg6 : arg6.IsWhole) (arg7 : Memref sig .tc .vmem S64x5120 .f32) (harg7 : arg7.IsWhole) (arg8 : Memref sig .tc .vmem S64x5120 .f32) (harg8 : arg8.IsWhole) (arg9 : Memref sig .tc .vmem S64x5120 .f32) (harg9 : arg9.IsWhole) (arg10 : Memref sig .tc .vmem S64x5120 .f32) (harg10 : arg10.IsWhole) (arg11 : Memref sig .tc .vmem S64x5120 .f32) (harg11 : arg11.IsWhole) (arg12 : Memref sig .tc .vmem S64x5120 .f32) (harg12 : arg12.IsWhole) (arg13 : Memref sig .tc .smem S1 .f32) (harg13 : arg13.IsWhole) (arg14 : Memref sig .tc .vmem S64x5120 .fp8e4m3) (harg14 : arg14.IsWhole) (arg15 : Memref sig .tc .vmem S64x40 .f32) (harg15 : arg15.IsWhole) (v0 : Vec F S32x128 .f32) (v6 : Elt F .f32) (v10 : Elt F .f32) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k1_t1_loop.trips)

set_option maxHeartbeats 2000000

/-- The trip's stores of the new parameters. -/
theorem trip_master : (trip_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v6 v10 X_arg4 X_arg5 X_arg6 X_arg7 X_arg8 k).1
    = order.map (piece k (blkMaster arg4 arg5 arg6 arg7 arg8 v0 v6 v10 X_arg4 X_arg5 X_arg6 X_arg7 X_arg8 k)) := by
  sl_kernel_rfl

/-- The trip's stores of the first moment. -/
theorem trip_m : (trip_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v6 v10 X_arg4 X_arg5 X_arg6 X_arg7 X_arg8 k).2.1
    = order.map (piece k (blkM arg4 arg5 arg7 v0 v6 v10 X_arg4 X_arg5 X_arg7 k)) := by
  sl_kernel_rfl

/-- The trip's stores of the second moment. -/
theorem trip_v : (trip_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v6 v10 X_arg4 X_arg5 X_arg6 X_arg7 X_arg8 k).2.2.1
    = order.map (piece k (blkV arg4 arg5 arg8 v0 v6 v10 X_arg4 X_arg5 X_arg8 k)) := by
  sl_kernel_rfl

/-- The trip's stores of the update. -/
theorem trip_upd : (trip_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v6 v10 X_arg4 X_arg5 X_arg6 X_arg7 X_arg8 k).2.2.2.1
    = order.map (piece k (blkUpd arg4 arg5 arg6 arg7 arg8 v0 v6 v10 X_arg4 X_arg5 X_arg6 X_arg7 X_arg8 k)) := by
  sl_kernel_rfl

/-- The trip's stores of the codes. -/
theorem trip_code : (trip_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v6 v10 X_arg4 X_arg5 X_arg6 X_arg7 X_arg8 k).2.2.2.2.1
    = order.map (piece k (fun b => mkCode (blkMaster arg4 arg5 arg6 arg7 arg8 v0 v6 v10 X_arg4 X_arg5 X_arg6 X_arg7 X_arg8 k b))) := by
  sl_kernel_rfl

/-- The trip's stores of the scales. -/
theorem trip_scale : (trip_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v0 v6 v10 X_arg4 X_arg5 X_arg6 X_arg7 X_arg8 k).2.2.2.2.2.1
    = order.map (pieceOut k (fun b => mkScale (blkMaster arg4 arg5 arg6 arg7 arg8 v0 v6 v10 X_arg4 X_arg5 X_arg6 X_arg7 X_arg8 k b))) := by
  sl_kernel_rfl

end Trip

end Cert.KernelIdeal.Value

end
-- ==== Proof.Exponent.lean ====
/- The power-of-two block scale on the extended reals. The kernel finds the exponent field of a number `x` by
   comparing `x` with the floats whose patterns are one exponent field and nothing else, halving the range eight
   times; the reference takes `⌊log x / log 2⌋ + 1`. Here the two are shown to give the same scale and the same
   reciprocal scale, for every extended real `x`. -/
module

public import Idealize.ShloMosaic.PureOps.Ideal

@[expose] public section

noncomputable section

namespace Cert.Exponent

open Idealize.ShloMosaic

/-- The float whose pattern is the exponent field `w` shifted into place. -/
def word (w : BitVec 32) : EReal := Ideal.ofBits .f32 (IntOp.shli .vector w 23#32)

/-- One halving step of the search: take the bit if the power it gives is still at most `x`. -/
def step (x : EReal) (bit e : BitVec 32) : BitVec 32 :=
  Scalar.select (Ideal.cmp .ole (word (IntOp.addi e bit)) x) (IntOp.addi e bit) e

/-- The exponent field the kernel finds: the eight steps, and 255 from `2^126` on. -/
def field (x : EReal) : BitVec 32 :=
  Scalar.select (Ideal.cmp .olt x (Ideal.ofBits .f32 0x7E800000#32))
    (step x 1#32 (step x 2#32 (step x 4#32 (step x 8#32 (step x 16#32 (step x 32#32 (step x 64#32 (step x 128#32 0#32)))))))) 255#32

/-- The field the scale is made from: 126 (a scale of one) where the field found is 0 or 255. -/
def fieldOr (x : EReal) : BitVec 32 :=
  Scalar.select (IntOp.ori (IntOp.cmpi .eq (field x) 0#32) (IntOp.cmpi .eq (field x) 255#32)) 126#32 (field x)

/-- The kernel's scale. -/
def scale (x : EReal) : EReal := word (IntOp.addi (fieldOr x) 1#32)

/-- The kernel's reciprocal scale. -/
def inv (x : EReal) : EReal := word (IntOp.subi 253#32 (fieldOr x))

/-- The reference's exponent: `⌊log x / l⌋ + 1`, and 0 outside `[2^-126, 2^126)`. -/
def refExp (l x : EReal) : EReal :=
  Scalar.select (IntOp.ori (Ideal.cmp .olt x (Ideal.ofBits .f32 0x00800000#32)) (Ideal.cmp .oge x (Ideal.ofBits .f32 0x7E800000#32)))
    (0 : EReal) (Ideal.liftRound Int.floor (Ideal.div (Ideal.log x) l) + 1)

/-! ### What the patterns denote -/

theorem extract_field : ∀ n : Fin 256, IntOp.shli .vector (BitVec.ofNat 32 n.val) 23#32 = BitVec.ofNat 32 (n.val * 2 ^ 23)
    ∧ (BitVec.ofNat 32 (n.val * 2 ^ 23)).extractLsb' 31 1 = 0#1
    ∧ ((BitVec.ofNat 32 (n.val * 2 ^ 23)).extractLsb' 23 8).toNat = n.val
    ∧ ((BitVec.ofNat 32 (n.val * 2 ^ 23)).extractLsb' 0 23).toNat = 0 := by decide +kernel

/-- A field alone is zero (field 0), the infinity (field 255) or the power `2^(n-127)`. -/
theorem word_eq (n : ℕ) (h : n < 256) : word (BitVec.ofNat 32 n)
    = if n = 255 then ⊤ else if n = 0 then 0 else (((2 : ℝ) ^ ((n : ℤ) - 127) : ℝ) : EReal) := by
  obtain ⟨h0, h1, h2, h3⟩ := extract_field ⟨n, h⟩
  simp only at h0 h1 h2 h3
  unfold word
  rw [h0]
  show Ideal.ieee 8 23 _ = _
  unfold Ideal.ieee
  simp only [Nat.reduceAdd, h1, h2, h3]
  by_cases h255 : n = 255
  · simp [h255]
  · by_cases hz : n = 0
    · simp [hz]
    · have e : (2 : ℝ) ^ ((n : ℤ) - 127) = 2 ^ 23 * (2 : ℝ) ^ ((n : ℤ) - 127 - 23) := by
        rw [← zpow_natCast, ← zpow_add₀ (by norm_num)]; congr 1; push_cast; ring
      rw [if_neg (by simpa using h255), if_neg hz, if_neg h255, if_neg hz, e]
      congr 1
      norm_num

/-- A field alone strictly between 0 and 255 is a power of two. -/
theorem word_pow (n : ℕ) (h0 : 0 < n) (h : n < 255) : word (BitVec.ofNat 32 n) = (((2 : ℝ) ^ ((n : ℤ) - 127) : ℝ) : EReal) := by
  rw [word_eq n (by omega), if_neg (by omega), if_neg (by omega)]

/-- A larger field is a larger number. -/
theorem word_mono {a b : ℕ} (hab : a ≤ b) (hb : b < 256) : word (BitVec.ofNat 32 a) ≤ word (BitVec.ofNat 32 b) := by
  by_cases h255 : b = 255
  · rw [word_eq b hb, if_pos h255]; exact le_top
  by_cases ha : a = 0
  · rw [word_eq a (by omega), if_neg (by omega), if_pos ha]
    by_cases hbz : b = 0
    · rw [word_eq b hb, if_neg h255, if_pos hbz]
    · rw [word_pow b (by omega) (by omega)]
      exact EReal.coe_nonneg.2 (by positivity)
  · rw [word_pow a (by omega) (by omega), word_pow b (by omega) (by omega), EReal.coe_le_coe_iff]
    exact zpow_le_zpow_right₀ (by norm_num) (by omega)

/-- The lower bound of the normal range, `2^-126`, is field 1; the upper bound taken here, `2^126`, field 253. -/
theorem ofBits_lo : Ideal.ofBits .f32 0x00800000#32 = word (BitVec.ofNat 32 1) := rfl
theorem ofBits_hi : Ideal.ofBits .f32 0x7E800000#32 = word (BitVec.ofNat 32 253) := rfl

/-! ### The search -/

theorem select_ofBool {α : Type} (b : Bool) (u v : α) : Scalar.select (BitVec.ofBool b) u v = if b then u else v := by
  cases b <;> rfl

/-- What a stage of the search knows: the field `n` found is at most the exponent of `x` (or 0), and the exponent
    lies within `w` of it. -/
def Inv (x : EReal) (w n : ℕ) : Prop :=
  n + w ≤ 256 ∧ (n = 0 ∨ word (BitVec.ofNat 32 n) ≤ x) ∧ (n + w = 256 ∨ x < word (BitVec.ofNat 32 (n + w)))

/-- One step halves the width of what is known. -/
theorem step_inv (x : EReal) (b n : ℕ) (hb : 0 < b) (h : Inv x (2 * b) n) :
    ∃ n', step x (BitVec.ofNat 32 b) (BitVec.ofNat 32 n) = BitVec.ofNat 32 n' ∧ Inv x b n' := by
  obtain ⟨h1, h2, h3⟩ := h
  have ha : IntOp.addi (BitVec.ofNat 32 n) (BitVec.ofNat 32 b) = BitVec.ofNat 32 (n + b) := by
    simp [IntOp.addi, BitVec.ofNat_add]
  unfold step
  rw [ha]
  show ∃ n', Scalar.select (BitVec.ofBool (decide (word (BitVec.ofNat 32 (n + b)) ≤ x))) _ _ = _ ∧ _
  rw [select_ofBool]
  by_cases hx : word (BitVec.ofNat 32 (n + b)) ≤ x
  · refine ⟨n + b, by simp [hx], by omega, .inr hx, ?_⟩
    rw [show n + b + b = n + 2 * b by ring]; exact h3
  · exact ⟨n, by simp [hx], by omega, h2, .inr (not_le.1 hx)⟩

/-- The eight steps find the field `n` with `word n ≤ x < word (n + 1)`, as far as those bounds apply. -/
theorem search (x : EReal) : ∃ n, step x 1#32 (step x 2#32 (step x 4#32 (step x 8#32 (step x 16#32 (step x 32#32 (step x 64#32
    (step x 128#32 0#32))))))) = BitVec.ofNat 32 n ∧ Inv x 1 n := by
  obtain ⟨n1, e1, i1⟩ := step_inv x 128 0 (by norm_num) ⟨by norm_num, .inl rfl, .inl rfl⟩
  obtain ⟨n2, e2, i2⟩ := step_inv x 64 n1 (by norm_num) i1
  obtain ⟨n3, e3, i3⟩ := step_inv x 32 n2 (by norm_num) i2
  obtain ⟨n4, e4, i4⟩ := step_inv x 16 n3 (by norm_num) i3
  obtain ⟨n5, e5, i5⟩ := step_inv x 8 n4 (by norm_num) i4
  obtain ⟨n6, e6, i6⟩ := step_inv x 4 n5 (by norm_num) i5
  obtain ⟨n7, e7, i7⟩ := step_inv x 2 n6 (by norm_num) i6
  obtain ⟨n8, e8, i8⟩ := step_inv x 1 n7 (by norm_num) i7
  refine ⟨n8, ?_, i8⟩
  rw [← e8, ← e7, ← e6, ← e5, ← e4, ← e3, ← e2, ← e1]

/-- The field found, by where `x` lies: 0 below `2^-126`, 255 from `2^126` on, and between them the exponent. -/
theorem field_cases (x : EReal) :
    (x < word (BitVec.ofNat 32 1) ∧ x < word (BitVec.ofNat 32 253) ∧ field x = 0#32)
    ∨ (¬ x < word (BitVec.ofNat 32 1) ∧ ¬ x < word (BitVec.ofNat 32 253) ∧ field x = 255#32)
    ∨ ∃ n : ℕ, 1 ≤ n ∧ n ≤ 252 ∧ ¬ x < word (BitVec.ofNat 32 1) ∧ x < word (BitVec.ofNat 32 253)
        ∧ word (BitVec.ofNat 32 n) ≤ x ∧ x < word (BitVec.ofNat 32 (n + 1)) ∧ field x = BitVec.ofNat 32 n := by
  obtain ⟨n, e, hn, hlo, hhi⟩ := search x
  have hf : field x = if x < word (BitVec.ofNat 32 253) then BitVec.ofNat 32 n else 255#32 := by
    unfold field
    rw [e, ofBits_hi]
    show Scalar.select (BitVec.ofBool (decide (x < word (BitVec.ofNat 32 253)))) _ _ = _
    rw [select_ofBool]
    simp
  by_cases hx : x < word (BitVec.ofNat 32 253)
  · rw [if_pos hx] at hf
    have hn252 : n ≤ 252 := by
      by_contra hc
      rcases hlo with h | h
      · omega
      · exact absurd hx (not_lt.2 ((word_mono (by omega) (by omega)).trans h))
    have hhi' : x < word (BitVec.ofNat 32 (n + 1)) := by
      rcases hhi with h | h
      · omega
      · exact h
    by_cases hz : n = 0
    · subst hz
      exact .inl ⟨by simpa using hhi', hx, hf⟩
    · have hlo' : word (BitVec.ofNat 32 n) ≤ x := hlo.resolve_left hz
      exact .inr (.inr ⟨n, by omega, hn252, not_lt.2 ((word_mono (by omega) (by omega)).trans hlo'), hx, hlo', hhi', hf⟩)
  · rw [if_neg hx] at hf
    exact .inr (.inl ⟨fun h => hx (h.trans_le (word_mono (by omega) (by omega))), hx, hf⟩)

/-! ### The scale -/

theorem fieldOr_zero (x : EReal) (h : field x = 0#32) : fieldOr x = 126#32 := by unfold fieldOr; rw [h]; rfl

theorem fieldOr_top (x : EReal) (h : field x = 255#32) : fieldOr x = 126#32 := by unfold fieldOr; rw [h]; rfl

theorem fieldOr_mid (x : EReal) (n : ℕ) (h1 : 1 ≤ n) (h2 : n ≤ 252) (h : field x = BitVec.ofNat 32 n) : fieldOr x = BitVec.ofNat 32 n := by
  have key : ∀ k : Fin 253, 1 ≤ k.val → IntOp.ori (IntOp.cmpi .eq (BitVec.ofNat 32 k.val) 0#32) (IntOp.cmpi .eq (BitVec.ofNat 32 k.val) 255#32) = 0#1 := by
    decide +kernel
  unfold fieldOr
  rw [h, key ⟨n, by omega⟩ h1]
  rfl

/-- The reference's exponent of `x`, out of the range. -/
theorem refExp_out (l x : EReal) (h : x < word (BitVec.ofNat 32 1) ∨ ¬ x < word (BitVec.ofNat 32 253)) : refExp l x = 0 := by
  unfold refExp
  rw [ofBits_lo, ofBits_hi]
  show Scalar.select (IntOp.ori (BitVec.ofBool (decide (x < word (BitVec.ofNat 32 1)))) (BitVec.ofBool (decide (word (BitVec.ofNat 32 253) ≤ x)))) _ _ = _
  rcases h with h | h
  · by_cases h' : word (BitVec.ofNat 32 253) ≤ x <;> simp [h, h', IntOp.ori, Scalar.select]
  · by_cases h' : x < word (BitVec.ofNat 32 1) <;> simp [not_lt.1 h, h', IntOp.ori, Scalar.select]

/-- The floor of the base-two logarithm of a real between two neighbouring powers of two. -/
theorem floor_log (r : ℝ) (k : ℤ) (h1 : (2 : ℝ) ^ k ≤ r) (h2 : r < (2 : ℝ) ^ (k + 1)) : ⌊Real.log r * (1 / Real.log 2)⌋ = k := by
  have hl : 0 < Real.log 2 := Real.log_pos (by norm_num)
  have hr : 0 < r := lt_of_lt_of_le (by positivity) h1
  rw [Int.floor_eq_iff, mul_one_div]
  constructor
  · rw [le_div_iff₀ hl, ← Real.log_zpow]
    exact Real.log_le_log (by positivity) h1
  · rw [div_lt_iff₀ hl]
    have := Real.log_lt_log hr h2
    rw [Real.log_zpow] at this
    push_cast at this
    exact this

/-- The reference's exponent of `x`, in the range: the field less 126. -/
theorem refExp_mid (x : EReal) (n : ℕ) (h1 : 1 ≤ n) (h2 : n ≤ 252) (hlo : ¬ x < word (BitVec.ofNat 32 1))
    (hhi : x < word (BitVec.ofNat 32 253)) (hn : word (BitVec.ofNat 32 n) ≤ x) (hn' : x < word (BitVec.ofNat 32 (n + 1))) :
    refExp ((Real.log 2 : ℝ) : EReal) x = (((n : ℤ) - 126 : ℤ) : ℝ) := by
  unfold refExp
  rw [ofBits_lo, ofBits_hi]
  show Scalar.select (IntOp.ori (BitVec.ofBool (decide (x < word (BitVec.ofNat 32 1)))) (BitVec.ofBool (decide (word (BitVec.ofNat 32 253) ≤ x)))) _ _ = _
  have e : IntOp.ori (BitVec.ofBool (decide (x < word (BitVec.ofNat 32 1)))) (BitVec.ofBool (decide (word (BitVec.ofNat 32 253) ≤ x))) = 0#1 := by
    simp [hlo, not_le.2 hhi, IntOp.ori]
  rw [e]
  show Ideal.liftRound Int.floor (Ideal.div (Ideal.log x) ((Real.log 2 : ℝ) : EReal)) + 1 = _
  rw [word_pow n (by omega) (by omega)] at hn
  rw [word_pow (n + 1) (by omega) (by omega)] at hn'
  induction x using EReal.rec with
  | bot => exact absurd hn (by simp)
  | top => exact absurd hn' (by simp)
  | coe r =>
    rw [EReal.coe_le_coe_iff] at hn
    rw [EReal.coe_lt_coe_iff] at hn'
    have hr : 0 < r := lt_of_lt_of_le (by positivity) hn
    rw [Ideal.log_coe, if_neg (not_le.2 hr), Ideal.div_coe (Real.log_pos (by norm_num)).ne', ← EReal.coe_mul, Ideal.liftRound_coe,
      floor_log r ((n : ℤ) - 127) hn (by convert hn' using 2; push_cast; ring)]
    rw [← EReal.coe_one, ← EReal.coe_add]
    congr 1
    push_cast; ring

theorem exp2_int (k : ℤ) : Ideal.exp2 (((k : ℤ) : ℝ) : EReal) = (((2 : ℝ) ^ k : ℝ) : EReal) := by
  rw [Ideal.exp2_coe]
  congr 1
  exact Real.rpow_intCast 2 k

theorem exp2_zero : Ideal.exp2 (0 : EReal) = word (BitVec.ofNat 32 127) := by
  have := exp2_int 0
  rw [word_pow 127 (by norm_num) (by norm_num)]
  simpa using this

/-- The kernel's scale is two to the reference's exponent. -/
theorem scale_eq (x : EReal) : scale x = Ideal.exp2 (refExp ((Real.log 2 : ℝ) : EReal) x) := by
  rcases field_cases x with ⟨h, -, hf⟩ | ⟨-, h, hf⟩ | ⟨n, h1, h2, hlo, hhi, hn, hn', hf⟩
  · rw [refExp_out _ x (.inl h), exp2_zero, scale, fieldOr_zero x hf]; rfl
  · rw [refExp_out _ x (.inr h), exp2_zero, scale, fieldOr_top x hf]; rfl
  · rw [refExp_mid x n h1 h2 hlo hhi hn hn', exp2_int, scale, fieldOr_mid x n h1 h2 hf]
    have : IntOp.addi (BitVec.ofNat 32 n) 1#32 = BitVec.ofNat 32 (n + 1) := by simp [IntOp.addi, BitVec.ofNat_add]
    rw [this, word_pow (n + 1) (by omega) (by omega)]
    congr 2; push_cast; ring

/-- The kernel's reciprocal scale is two to the opposite of the reference's exponent. -/
theorem inv_eq (x : EReal) : inv x = Ideal.exp2 (0 - refExp ((Real.log 2 : ℝ) : EReal) x) := by
  rcases field_cases x with ⟨h, -, hf⟩ | ⟨-, h, hf⟩ | ⟨n, h1, h2, hlo, hhi, hn, hn', hf⟩
  · rw [refExp_out _ x (.inl h), sub_zero, exp2_zero, inv, fieldOr_zero x hf]; rfl
  · rw [refExp_out _ x (.inr h), sub_zero, exp2_zero, inv, fieldOr_top x hf]; rfl
  · rw [refExp_mid x n h1 h2 hlo hhi hn hn', ← EReal.coe_zero, ← EReal.coe_sub, inv, fieldOr_mid x n h1 h2 hf]
    have key : ∀ k : Fin 253, IntOp.subi 253#32 (BitVec.ofNat 32 k.val) = BitVec.ofNat 32 (253 - k.val) := by decide +kernel
    have : IntOp.subi 253#32 (BitVec.ofNat 32 n) = BitVec.ofNat 32 (253 - n) := key ⟨n, by omega⟩
    have e : (0 : ℝ) - (((n : ℤ) - 126 : ℤ) : ℝ) = ((126 - (n : ℤ) : ℤ) : ℝ) := by push_cast; ring
    rw [this, word_pow (253 - n) (by omega) (by omega), e, exp2_int]
    congr 2; push_cast [Nat.cast_sub (show n ≤ 253 by omega)]; ring

end Cert.Exponent

end
-- ==== Proof.Spec.lean ====
/- The optimiser step on the extended reals, as both programs compute it: the dequantised gradient sum, its squared
   norm over everything, the clipping factor, and from them row by row the new moments, the update, the new
   parameters, and the scales and codes these are stored as. -/
module

public import proofs.«01_k».proof.Proof.Exponent

@[expose] public section

noncomputable section

namespace Cert.Spec

open Idealize.ShloMosaic

/-- The block that holds column `c`, and column `l` of block `b`. -/
def blk (c : Fin 5120) : Fin 40 := ⟨c.val / 128, by omega⟩
def col (b : Fin 40) (l : Fin 128) : Fin 5120 := ⟨128 * b.val + l.val, by omega⟩

theorem blk_col (b : Fin 40) (l : Fin 128) : blk (col b l) = b := by
  apply Fin.ext; simp only [blk, col]; omega

/-- The first and second moments from their old values and the gradient. -/
def mom (m g : EReal) : EReal := Ideal.ofBits .f32 0x3F666666#32 * m + Ideal.ofBits .f32 0x3DCCCCCD#32 * g
def vel (v g : EReal) : EReal := Ideal.ofBits .f32 0x3F733333#32 * v + Ideal.ofBits .f32 0x3D4CCCCD#32 * (g * g)

/-- The reciprocals of the two bias corrections. -/
def ibc1 : ℝ := 100000000000000000000 / 87842334540943071199
def ibc2 : ℝ := 104857600000000000000000000 / 67267626542454041806644399

/-- The update of a parameter `p` with moments `m`, `v` and gradient `g`. -/
def upd (p m v g : EReal) : EReal :=
  Ideal.ofBits .f32 0x3C23D70A#32
    * (Ideal.div (mom m g * (ibc1 : EReal)) (Ideal.sqrt (vel v g * (ibc2 : EReal)) + Ideal.ofBits .f32 0x322BCC77#32)
      + Ideal.ofBits .f32 0x3DCCCCCD#32 * p)

/-- The largest magnitude of a block over 448: what its scale is made from. -/
def amax (x : Fin 128 → EReal) : EReal :=
  Finset.fold max (Ideal.ofBits .f32 0xFF800000#32) (fun l => FloatOps.absf (F := Ideal) (φ := .f32) (x l)) Finset.univ * Ideal.ofBits .f32 0x3B124925#32

/-- A number `y` of the block `x` as it is stored: scaled, then clipped to ±448. -/
def code (x : Fin 128 → EReal) (y : EReal) : EReal :=
  min (Ideal.ofBits .f32 0x43E00000#32) (max (Ideal.ofBits .f32 0xC3E00000#32) (y * Exponent.inv (amax x)))

section Row

variable (f : EReal) (C : Fin 4 → Fin 5120 → EReal) (S : Fin 4 → Fin 40 → EReal) (p m v : Fin 5120 → EReal)

/-- The gradient of a row, dequantised and summed over the four ranks. -/
def gsum (c : Fin 5120) : EReal := ∑ a : Fin 4, C a c * S a (blk c)

/-- The results of a row: the moments, the update, the new parameters, and these as scales and codes. -/
def rowM (c : Fin 5120) : EReal := mom (m c) (gsum C S c * f)
def rowV (c : Fin 5120) : EReal := vel (v c) (gsum C S c * f)
def rowUpd (c : Fin 5120) : EReal := upd (p c) (m c) (v c) (gsum C S c * f)
def rowMaster (c : Fin 5120) : EReal := p c - rowUpd f C S p m v c
def rowScale (b : Fin 40) : EReal := Exponent.scale (amax fun l => rowMaster f C S p m v (col b l))
def rowCode (c : Fin 5120) : EReal := code (fun l => rowMaster f C S p m v (col (blk c) l)) (rowMaster f C S p m v c)

end Row

/-- A quarter, and the square of a gradient sum after division by the number of ranks. -/
def quarter : EReal := Ideal.ofBits .f32 0x3E800000#32
def sq (g : EReal) : EReal := g * quarter * (g * quarter)

/-- The gradient norm from the sum of squares `s` here and `o` elsewhere, and the factor on the gradient sum. -/
def norm (s o : EReal) : EReal := Ideal.sqrt (s + o)
def factor (mx s o : EReal) : EReal := min 1 (Ideal.div mx (norm s o)) * quarter

/-- The largest of equal numbers is that number. -/
theorem fold_max_const {α : Type} [Fintype α] [Nonempty α] (x : EReal) :
    Finset.fold max (Ideal.ofBits .f32 0xFF800000#32) (fun _ : α => x) Finset.univ = x := by
  have hb : Ideal.ofBits .f32 0xFF800000#32 = ⊥ := by simp [Ideal.ofBits, Ideal.ieee]
  rw [hb]
  apply le_antisymm
  · exact (Finset.fold_max_le _).2 ⟨bot_le, fun _ _ => le_rfl⟩
  · exact (Finset.le_fold_max _).2 (.inr ⟨Classical.arbitrary α, Finset.mem_univ _, le_rfl⟩)

section Whole

variable (C : Fin 4 → Fin 8192 → Fin 5120 → EReal) (S : Fin 4 → Fin 8192 → Fin 40 → EReal)
  (P M V : Fin 8192 → Fin 5120 → EReal) (o mx : EReal)

/-- The gradient sum at a place of the array, the sum of all squares, and the factor on the gradient sum. -/
def gAt (r : Fin 8192) (q : Fin 5120) : EReal := gsum (fun a => C a r) (fun a => S a r) q
def total : EReal := ∑ r : Fin 8192, ∑ q : Fin 5120, sq (gAt C S r q)
def clip : EReal := factor mx (total C S) o

/-- The seven results at a place, from the arguments. -/
def wMaster (r : Fin 8192) (q : Fin 5120) : EReal := rowMaster (clip C S o mx) (fun a => C a r) (fun a => S a r) (P r) (M r) (V r) q
def wM (r : Fin 8192) (q : Fin 5120) : EReal := rowM (clip C S o mx) (fun a => C a r) (fun a => S a r) (M r) q
def wV (r : Fin 8192) (q : Fin 5120) : EReal := rowV (clip C S o mx) (fun a => C a r) (fun a => S a r) (V r) q
def wUpd (r : Fin 8192) (q : Fin 5120) : EReal := rowUpd (clip C S o mx) (fun a => C a r) (fun a => S a r) (P r) (M r) (V r) q
def wNorm : EReal := norm (total C S) o
def wCode (r : Fin 8192) (q : Fin 5120) : EReal := rowCode (clip C S o mx) (fun a => C a r) (fun a => S a r) (P r) (M r) (V r) q
def wScale (r : Fin 8192) (b : Fin 40) : EReal := rowScale (clip C S o mx) (fun a => C a r) (fun a => S a r) (P r) (M r) (V r) b

end Whole

end Cert.Spec

end
-- ==== Proof.Pure.lean ====
/- The second kernel's arithmetic at an index. Each function of a whole block is read at one place of it and comes out as
   the scalar function of Spec.lean. -/
module

public import proofs.«01_k».proof.Proof.Trip
public import proofs.«01_k».proof.Proof.Spec
public import Idealize.ShloMosaic.Lib.Pointwise
public import Idealize.ShloMosaic.Lib.WholeRead

@[expose] public section

set_option maxRecDepth 16384

noncomputable section

namespace Cert.KernelIdeal.Value

open Idealize.ShloMosaic Idealize.ShloMosaic.TcCoe Idealize.SL.Sem Idealize.ShloMosaic.Tactic
open Cert.KernelIdeal Cert.KernelIdeal.Gen

/-! ### The arithmetic over blocks given as variables -/

theorem inv_bc1_eq : Named.named (F := Ideal) κ "inv_bc1" (φ := .f32) 0x3F91B733#32 = ((Spec.ibc1 : ℝ) : EReal) :=
  IdealRules.named_const.ideal_named_scalar _ _ _ _ rfl

theorem inv_bc2_eq : Named.named (F := Ideal) κ "inv_bc2" (φ := .f32) 0x3FC78729#32 = ((Spec.ibc2 : ℝ) : EReal) :=
  IdealRules.named_const.ideal_named_scalar _ _ _ _ rfl

theorem pay_sum (a0 a1 a2 a3 : FVec Ideal S1x32x128 .fp8e5m2) (s0 s1 s2 s3 : FVec Ideal S1x32x1 .f32) (i : Fin 32) (j : Fin 128) :
    k1_pay7 (F := Ideal) a0 s0 a1 s1 a2 s2 a3 s3 (ix2 i j)
      = a0 (ix3 0 i j) * s0 (ix3 0 i 0) + a1 (ix3 0 i j) * s1 (ix3 0 i 0) + a2 (ix3 0 i j) * s2 (ix3 0 i 0) + a3 (ix3 0 i j) * s3 (ix3 0 i 0) := by
  pointwise [k1_pay7]

theorem pay_clip (x : Ideal .f32) (i : Fin 32) (j : Fin 128) : k1_pay8 (F := Ideal) x (ix2 i j) = x := by
  pointwise [k1_pay8]

theorem pay_m (g c m : FVec Ideal S32x128 .f32) (i : Fin 32) (j : Fin 128) :
    k1_pay10 (F := Ideal) g c m (ix2 i j) = Spec.mom (m (ix2 i j)) (g (ix2 i j) * c (ix2 i j)) := by
  pointwise [k1_pay10, k1_pay9, Spec.mom]

theorem pay_v (g c v : FVec Ideal S32x128 .f32) (i : Fin 32) (j : Fin 128) :
    k1_pay11 (F := Ideal) g c v (ix2 i j) = Spec.vel (v (ix2 i j)) (g (ix2 i j) * c (ix2 i j)) := by
  pointwise [k1_pay11, k1_pay9, Spec.vel]

theorem pay_upd (g c p m v : FVec Ideal S32x128 .f32) (i : Fin 32) (j : Fin 128) :
    k1_pay12 (F := Ideal) g c p m v (ix2 i j) = Spec.upd (p (ix2 i j)) (m (ix2 i j)) (v (ix2 i j)) (g (ix2 i j) * c (ix2 i j)) := by
  pointwise [k1_pay12, k1_pay11, k1_pay10, k1_pay9, Spec.upd, Spec.mom, Spec.vel, inv_bc1_eq, inv_bc2_eq]

theorem pay_master (g c p m v : FVec Ideal S32x128 .f32) (i : Fin 32) (j : Fin 128) :
    k1_pay13 (F := Ideal) g c p m v (ix2 i j)
      = p (ix2 i j) - Spec.upd (p (ix2 i j)) (m (ix2 i j)) (v (ix2 i j)) (g (ix2 i j) * c (ix2 i j)) := by
  rw [← pay_upd]
  pointwise [k1_pay13]

theorem pay_amax (x : FVec Ideal S32x128 .f32) (i : Fin 32) (j : Fin 1) :
    k1_pay14 (F := Ideal) x (ix2 i j) = Spec.amax fun l => x (ix2 i l) := by
  pointwise [k1_pay14, Spec.amax]

/-- The scale of every row of a block is the scalar function's. -/
theorem mkScale_eq (x : FVec Ideal S32x128 .f32) (i : S32x1.Idx) : mkScale (F := Ideal) x i = Exponent.scale (k1_pay14 (F := Ideal) x i) := by
  sl_kernel_rfl

theorem mkScale_apply (x : FVec Ideal S32x128 .f32) (i : Fin 32) (j : Fin 1) :
    mkScale (F := Ideal) x (ix2 i j) = Exponent.scale (Spec.amax fun l => x (ix2 i l)) := by
  rw [mkScale_eq, pay_amax]

/-- The reciprocal scales of a block's rows, before they are spread over the columns. -/
def mkInv (x : FVec Ideal S32x128 .f32) : FVec Ideal S32x1 .f32 :=
  bitcastToFloat (F := Ideal) .f32 (shli (subi (broadcast S32x1 253#32) (k1_pay20 (mkWord x) (mkOdd x) k1_pay19)) (broadcast S32x1 23#32))

theorem mkInv_eq (x : FVec Ideal S32x128 .f32) (i : S32x1.Idx) : mkInv x i = Exponent.inv (k1_pay14 (F := Ideal) x i) := by
  sl_kernel_rfl

theorem mkCode_eq (x : FVec Ideal S32x128 .f32) (w : IVec S32x1 32) (o : IVec S32x1 1) (e : IVec S32x1 32) (i : Fin 32) (j : Fin 128) :
    k1_pay22 (F := Ideal) x w o e (ix2 i j)
      = min (Ideal.ofBits .f32 0x43E00000#32) (max (Ideal.ofBits .f32 0xC3E00000#32) (x (ix2 i j)
        * bitcastToFloat (F := Ideal) .f32 (shli (subi (broadcast S32x1 253#32) (k1_pay20 w o e)) (broadcast S32x1 23#32)) (ix2 i 0))) := by
  pointwise [k1_pay22]

theorem mkCode_apply (x : FVec Ideal S32x128 .f32) (i : Fin 32) (j : Fin 128) :
    mkCode (F := Ideal) x (ix2 i j) = Spec.code (fun l => x (ix2 i l)) (x (ix2 i j)) := by
  have h : mkInv x (ix2 i 0) = Exponent.inv (Spec.amax fun l => x (ix2 i l)) := by rw [mkInv_eq, pay_amax]
  unfold mkCode
  rw [mkCode_eq]
  unfold Spec.code
  rw [← h]
  rfl

theorem pay_norm (a : FVec Ideal S32x128 .f32) (o : Ideal .f32) :
    k1_pay2 (F := Ideal) a o = Spec.norm (∑ i : Fin 32, ∑ j : Fin 128, a (ix2 i j)) o := by
  pointwise [k1_pay2, k1_pay1]
  exact Spec.fold_max_const _

theorem pay_factor (a : FVec Ideal S32x128 .f32) (o mx : Ideal .f32) :
    k1_pay3 (F := Ideal) a o mx = Spec.factor mx (∑ i : Fin 32, ∑ j : Fin 128, a (ix2 i j)) o := by
  pointwise [k1_pay3, k1_pay1]
  rw [Spec.fold_max_const]
  rfl

end Cert.KernelIdeal.Value

end
-- ==== Proof.Point1.lean ====
/- What one point of the second kernel stores: its two trips together store every block of 64 rows once, and each block holds
   the row functions of Spec.lean of the blocks the point was given. -/
module

public import proofs.«01_k».proof.Proof.Pure

@[expose] public section

set_option maxRecDepth 16384

noncomputable section

namespace Cert.KernelIdeal.Value

open Idealize.ShloMosaic Idealize.ShloMosaic.TcCoe Idealize.SL.Sem Idealize.ShloMosaic.Tactic
open Cert.KernelIdeal Cert.KernelIdeal.Gen

/-- The two trips. -/
def trip0 : Fin k1_t1_loop.trips := ⟨0, by decide +kernel⟩
def trip1 : Fin k1_t1_loop.trips := ⟨1, by decide +kernel⟩

/-- The stores of both trips, the second trip's first. -/
def both {α : Type} (f : Fin k1_t1_loop.trips → Fin 40 → α) : List α := order.map (f trip1) ++ (order.map (f trip0) ++ [])

theorem mem_both {α : Type} {f : Fin k1_t1_loop.trips → Fin 40 → α} {p : α} (h : p ∈ both f) : ∃ k b, p = f k b := by
  simp only [both, List.append_nil, List.mem_append, List.mem_map] at h
  rcases h with ⟨b, _, h⟩ | ⟨b, _, h⟩
  · exact ⟨_, b, h.symm⟩
  · exact ⟨_, b, h.symm⟩

/-- A scalar held in a one-word buffer, as the kernel loads it. -/
def ldWord {F : FTy → Type} (arg : Memref sig .tc .smem S1 .f32) (X : BufTy.Contents (Elt F) arg.view.ty) : Elt F .f32 :=
  View.readAt (Elt F) arg.view (Rect.unit (s := S1) ![0] ![1] inb_S1_S1_0).toLoadRect X (Shape.Idx.first (Nat.one_pos))

/-- The partial sums of squares, as the kernel loads them. -/
def ldPart {F : FTy → Type} (arg : Memref sig .tc .vmem S32x128 .f32) (X : BufTy.Contents (Elt F) arg.view.ty) : Vec F S32x128 .f32 :=
  View.readAt (Elt F) arg.view (Rect.unit (s := S32x128) ![0, 0] ![32, 128] inb_S32x128_S32x128_0_0).toLoadRect X

section Run

variable {F : FTy → Type} [FloatOps F] [Named F]
variable (c : Dev nD) (i : grid1.Coords) (arg1 : Memref sig .tc .vmem S32x128 .f32) (harg1 : arg1.IsWhole) (arg2 : Memref sig .tc .smem S1 .f32) (harg2 : arg2.IsWhole) (arg3 : Memref sig .tc .smem S1 .f32) (harg3 : arg3.IsWhole) (arg4 : Memref sig .tc .vmem S4x64x5120 .fp8e5m2) (harg4 : arg4.IsWhole) (arg5 : Memref sig .tc .vmem S4x64x40 .f32) (harg5 : arg5.IsWhole) (arg6 : Memref sig .tc .vmem S64x5120 .f32) (harg6 : arg6.IsWhole) (arg7 : Memref sig .tc .vmem S64x5120 .f32) (harg7 : arg7.IsWhole) (arg8 : Memref sig .tc .vmem S64x5120 .f32) (harg8 : arg8.IsWhole) (arg9 : Memref sig .tc .vmem S64x5120 .f32) (harg9 : arg9.IsWhole) (arg10 : Memref sig .tc .vmem S64x5120 .f32) (harg10 : arg10.IsWhole) (arg11 : Memref sig .tc .vmem S64x5120 .f32) (harg11 : arg11.IsWhole) (arg12 : Memref sig .tc .vmem S64x5120 .f32) (harg12 : arg12.IsWhole) (arg13 : Memref sig .tc .smem S1 .f32) (harg13 : arg13.IsWhole) (arg14 : Memref sig .tc .vmem S64x5120 .fp8e4m3) (harg14 : arg14.IsWhole) (arg15 : Memref sig .tc .vmem S64x40 .f32) (harg15 : arg15.IsWhole) (x0 : Vec F S32x128 .f32) (x1 : Vec F S1 .f32) (x2 : Vec F S1 .f32) (x3 : Vec F S4x64x5120 .fp8e5m2) (x4 : Vec F S4x64x40 .f32) (x5 : Vec F S64x5120 .f32) (x6 : Vec F S64x5120 .f32) (x7 : Vec F S64x5120 .f32)

set_option maxHeartbeats 2000000

/-- The point's stores of the new parameters. -/
theorem run_master : (kernelRun1_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).1
    = both fun k => piece k (blkMaster arg4 arg5 arg6 arg7 arg8 (ldPart arg1 (harg1.unread x0)) (ldWord arg2 (harg2.unread x1)) (ldWord arg3 (harg3.unread x2)) (harg4.unread x3) (harg5.unread x4) (harg6.unread x5) (harg7.unread x6) (harg8.unread x7) k) := by
  sl_kernel_rfl

/-- The point's stores of the first moment. -/
theorem run_m : (kernelRun1_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.1
    = both fun k => piece k (blkM arg4 arg5 arg7 (ldPart arg1 (harg1.unread x0)) (ldWord arg2 (harg2.unread x1)) (ldWord arg3 (harg3.unread x2)) (harg4.unread x3) (harg5.unread x4) (harg7.unread x6) k) := by
  sl_kernel_rfl

/-- The point's stores of the second moment. -/
theorem run_v : (kernelRun1_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.1
    = both fun k => piece k (blkV arg4 arg5 arg8 (ldPart arg1 (harg1.unread x0)) (ldWord arg2 (harg2.unread x1)) (ldWord arg3 (harg3.unread x2)) (harg4.unread x3) (harg5.unread x4) (harg8.unread x7) k) := by
  sl_kernel_rfl

/-- The point's stores of the update. -/
theorem run_upd : (kernelRun1_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.1
    = both fun k => piece k (blkUpd arg4 arg5 arg6 arg7 arg8 (ldPart arg1 (harg1.unread x0)) (ldWord arg2 (harg2.unread x1)) (ldWord arg3 (harg3.unread x2)) (harg4.unread x3) (harg5.unread x4) (harg6.unread x5) (harg7.unread x6) (harg8.unread x7) k) := by
  sl_kernel_rfl

/-- The point's stores of the codes. -/
theorem run_code : (kernelRun1_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.2.2.1
    = both fun k => piece k (fun b => mkCode (blkMaster arg4 arg5 arg6 arg7 arg8 (ldPart arg1 (harg1.unread x0)) (ldWord arg2 (harg2.unread x1)) (ldWord arg3 (harg3.unread x2)) (harg4.unread x3) (harg5.unread x4) (harg6.unread x5) (harg7.unread x6) (harg8.unread x7) k b)) := by
  sl_kernel_rfl

/-- The point's stores of the scales. -/
theorem run_scale : (kernelRun1_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.2.2.2.1
    = both fun k => pieceOut k (fun b => mkScale (blkMaster arg4 arg5 arg6 arg7 arg8 (ldPart arg1 (harg1.unread x0)) (ldWord arg2 (harg2.unread x1)) (ldWord arg3 (harg3.unread x2)) (harg4.unread x3) (harg5.unread x4) (harg6.unread x5) (harg7.unread x6) (harg8.unread x7) k b)) := by
  sl_kernel_rfl

/-- The point's store of the norm. -/
theorem run_norm : (kernelRun1_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.2.1
    = [⟨Rect.unit (s := S1) ![0] ![1] inb_S1_S1_0, fun _ => k1_pay2 (ldPart arg1 (harg1.unread x0)) (ldWord arg2 (harg2.unread x1))⟩] := by
  sl_kernel_rfl

end Run

/-! ### Loads at an index -/

/-- Row `r` of trip `k` in the point's 64 rows. -/
def rowOf (k : Fin k1_t1_loop.trips) (r : Fin 32) : Fin 64 := ⟨row1 k + r.val, by have := row1_le k; omega⟩

section Load

variable {F : FTy → Type} [FloatOps F] (k : Fin k1_t1_loop.trips) (b : Fin 40) (a : Fin 4) (r : Fin 32) (l : Fin 128)

theorem ldWord_apply (arg : Memref sig .tc .smem S1 .f32) (h : arg.IsWhole) (x : Vec F S1 .f32) : ldWord arg (h.unread x) = x (ix1 0) := by
  unfold ldWord
  rw [h.readAt_unread]
  congr 1
  funext i; fin_cases i; rfl

theorem ldPart_apply (arg : Memref sig .tc .vmem S32x128 .f32) (h : arg.IsWhole) (x : Vec F S32x128 .f32) :
    ldPart arg (h.unread x) (ix2 r l) = x (ix2 r l) := by
  unfold ldPart
  rw [h.readAt_unread]
  congr 1
  funext i; fin_cases i <;> apply Fin.ext <;> simp [ix2, LoadRect.idx]

theorem ldParam_apply (arg : Memref sig .tc .vmem S64x5120 .f32) (h : arg.IsWhole) (x : Vec F S64x5120 .f32) :
    ldParam k b arg (h.unread x) (ix2 r l) = x (ix2 (rowOf k r) (Spec.col b l)) := by
  unfold ldParam
  rw [h.readAt_unread]
  congr 1
  funext i; fin_cases i <;> apply Fin.ext <;> simp [ix2, LoadRect.idx, offParam, rowOf, Spec.col]

theorem ldCode_apply (arg : Memref sig .tc .vmem S4x64x5120 .fp8e5m2) (h : arg.IsWhole) (x : Vec F S4x64x5120 .fp8e5m2) :
    ldCode arg (h.unread x) k b a (ix3 0 r l) = x (ix3 a (rowOf k r) (Spec.col b l)) := by
  unfold ldCode
  rw [h.readAt_unread]
  congr 1
  funext i; fin_cases i <;> apply Fin.ext <;> simp [ix3, LoadRect.idx, offCode, rowOf, Spec.col]

theorem ldScale_apply (arg : Memref sig .tc .vmem S4x64x40 .f32) (h : arg.IsWhole) (x : Vec F S4x64x40 .f32) :
    ldScale arg (h.unread x) k b a (ix3 0 r 0) = x (ix3 a (rowOf k r) b) := by
  unfold ldScale
  rw [h.readAt_unread]
  congr 1
  funext i; fin_cases i <;> apply Fin.ext <;> simp [ix3, LoadRect.idx, offScale, rowOf]

/-- Where a block's place `(r, l)` is stored. -/
theorem param_emb : (Rect.unit (s := S64x5120) (offParam k b) S32x128.size (offParam_inb k b)).emb (ix2 r l) = ix2 (rowOf k r) (Spec.col b l) := by
  funext i; fin_cases i <;> apply Fin.ext <;> simp [ix2, Rect.emb, Rect.unit, LoadRect.idx, offParam, rowOf, Spec.col]

theorem out_emb (j : Fin 1) : (Rect.unit (s := S64x40) (offOut k b) S32x1.size (offOut_inb k b)).emb (ix2 r j) = ix2 (rowOf k r) b := by
  obtain rfl : j = 0 := Subsingleton.elim _ _
  funext i; fin_cases i <;> apply Fin.ext <;> simp [ix2, Rect.emb, Rect.unit, LoadRect.idx, offOut, rowOf]

end Load

/-! ### The blocks at an index, and what the point leaves in each output block -/

section Value

variable (c : Dev nD) (i : grid1.Coords) (arg1 : Memref sig .tc .vmem S32x128 .f32) (harg1 : arg1.IsWhole) (arg2 : Memref sig .tc .smem S1 .f32) (harg2 : arg2.IsWhole) (arg3 : Memref sig .tc .smem S1 .f32) (harg3 : arg3.IsWhole) (arg4 : Memref sig .tc .vmem S4x64x5120 .fp8e5m2) (harg4 : arg4.IsWhole) (arg5 : Memref sig .tc .vmem S4x64x40 .f32) (harg5 : arg5.IsWhole) (arg6 : Memref sig .tc .vmem S64x5120 .f32) (harg6 : arg6.IsWhole) (arg7 : Memref sig .tc .vmem S64x5120 .f32) (harg7 : arg7.IsWhole) (arg8 : Memref sig .tc .vmem S64x5120 .f32) (harg8 : arg8.IsWhole) (arg9 : Memref sig .tc .vmem S64x5120 .f32) (harg9 : arg9.IsWhole) (arg10 : Memref sig .tc .vmem S64x5120 .f32) (harg10 : arg10.IsWhole) (arg11 : Memref sig .tc .vmem S64x5120 .f32) (harg11 : arg11.IsWhole) (arg12 : Memref sig .tc .vmem S64x5120 .f32) (harg12 : arg12.IsWhole) (arg13 : Memref sig .tc .smem S1 .f32) (harg13 : arg13.IsWhole) (arg14 : Memref sig .tc .vmem S64x5120 .fp8e4m3) (harg14 : arg14.IsWhole) (arg15 : Memref sig .tc .vmem S64x40 .f32) (harg15 : arg15.IsWhole) (x0 : Vec Ideal S32x128 .f32) (x1 : Vec Ideal S1 .f32) (x2 : Vec Ideal S1 .f32) (x3 : Vec Ideal S4x64x5120 .fp8e5m2) (x4 : Vec Ideal S4x64x40 .f32) (x5 : Vec Ideal S64x5120 .f32) (x6 : Vec Ideal S64x5120 .f32) (x7 : Vec Ideal S64x5120 .f32) (k : Fin k1_t1_loop.trips) (b : Fin 40) (r : Fin 32) (l : Fin 128)

/-- A block's store agrees with a function of the whole array if its payload does at every place. -/
theorem piece_eq {φ : EltTy} (G : S64x5120.Idx → Elt Ideal φ) (w : Fin 40 → Vec Ideal S32x128 φ)
    (h : ∀ r l, w b (ix2 r l) = G (ix2 (rowOf k r) (Spec.col b l))) (x : S32x128.Idx) :
    (piece k w b).2 x = G ((piece k w b).1.emb x) := by
  show w b x = G ((Rect.unit (s := S64x5120) (offParam k b) S32x128.size (offParam_inb k b)).emb x)
  obtain ⟨r, l, rfl⟩ : ∃ (r : Fin 32) (l : Fin 128), x = ix2 r l := ⟨_, _, eq_ix2 x⟩
  rw [h]
  exact congrArg G (param_emb k b _ _).symm

theorem pieceOut_eq (G : S64x40.Idx → Elt Ideal .f32) (w : Fin 40 → FVec Ideal S32x1 .f32)
    (h : ∀ r j, w b (ix2 r j) = G (ix2 (rowOf k r) b)) (x : S32x1.Idx) :
    (pieceOut (F := Ideal) k w b).2 x = G ((pieceOut (F := Ideal) k w b).1.emb x) := by
  show w b x = G ((Rect.unit (s := S64x40) (offOut k b) S32x1.size (offOut_inb k b)).emb x)
  obtain ⟨r, j, rfl⟩ : ∃ (r : Fin 32) (j : Fin 1), x = ix2 r j := ⟨_, _, eq_ix2 x⟩
  rw [h]
  exact congrArg G (out_emb k b _ _).symm

/-- The factor on the gradient sum, and the row of each input block. -/
def fac : EReal := Spec.factor (x2 (ix1 0)) (∑ i : Fin 32, ∑ j : Fin 128, x0 (ix2 i j)) (x1 (ix1 0))
def rowC (ρ : Fin 64) : Fin 4 → Fin 5120 → EReal := fun a q => x3 (ix3 a ρ q)
def rowS (ρ : Fin 64) : Fin 4 → Fin 40 → EReal := fun a q => x4 (ix3 a ρ q)
def rowX (x : Vec Ideal S64x5120 .f32) (ρ : Fin 64) : Fin 5120 → EReal := fun q => x (ix2 ρ q)

/-- The output blocks of a point as functions of its input blocks. -/
def gM (y : S64x5120.Idx) : EReal := Spec.rowM (fac x0 x1 x2) (rowC x3 (y 0)) (rowS x4 (y 0)) (rowX x6 (y 0)) (y 1)
def gV (y : S64x5120.Idx) : EReal := Spec.rowV (fac x0 x1 x2) (rowC x3 (y 0)) (rowS x4 (y 0)) (rowX x7 (y 0)) (y 1)
def gUpd (y : S64x5120.Idx) : EReal :=
  Spec.rowUpd (fac x0 x1 x2) (rowC x3 (y 0)) (rowS x4 (y 0)) (rowX x5 (y 0)) (rowX x6 (y 0)) (rowX x7 (y 0)) (y 1)
def gMaster (y : S64x5120.Idx) : EReal :=
  Spec.rowMaster (fac x0 x1 x2) (rowC x3 (y 0)) (rowS x4 (y 0)) (rowX x5 (y 0)) (rowX x6 (y 0)) (rowX x7 (y 0)) (y 1)
def gCode (y : S64x5120.Idx) : EReal :=
  Spec.rowCode (fac x0 x1 x2) (rowC x3 (y 0)) (rowS x4 (y 0)) (rowX x5 (y 0)) (rowX x6 (y 0)) (rowX x7 (y 0)) (y 1)
def gScale (y : S64x40.Idx) : EReal :=
  Spec.rowScale (fac x0 x1 x2) (rowC x3 (y 0)) (rowS x4 (y 0)) (rowX x5 (y 0)) (rowX x6 (y 0)) (rowX x7 (y 0)) (y 1)

theorem ldPart_eq : ldPart arg1 (harg1.unread x0) = x0 := by
  funext y
  obtain ⟨r, l, rfl⟩ : ∃ (r : Fin 32) (l : Fin 128), y = ix2 r l := ⟨_, _, eq_ix2 y⟩
  rw [ldPart_apply]

theorem blkSum_apply : blkSum (F := Ideal) arg4 arg5 (harg4.unread x3) (harg5.unread x4) k b (ix2 r l)
    = Spec.gsum (rowC x3 (rowOf k r)) (rowS x4 (rowOf k r)) (Spec.col b l) := by
  unfold blkSum
  rw [pay_sum]
  simp only [ldCode_apply, ldScale_apply, Spec.gsum, Fin.sum_univ_four, Spec.blk_col, rowC, rowS]

theorem blkClip_apply : blkClip (F := Ideal) (ldPart arg1 (harg1.unread x0)) (ldWord arg2 (harg2.unread x1)) (ldWord arg3 (harg3.unread x2)) (ix2 r l)
    = fac x0 x1 x2 := by
  unfold blkClip
  rw [pay_clip, ldPart_eq, ldWord_apply, ldWord_apply, pay_factor]
  rfl

theorem blkM_apply : blkM (F := Ideal) arg4 arg5 arg7 (ldPart arg1 (harg1.unread x0)) (ldWord arg2 (harg2.unread x1)) (ldWord arg3 (harg3.unread x2)) (harg4.unread x3) (harg5.unread x4) (harg7.unread x6) k b (ix2 r l) = gM x0 x1 x2 x3 x4 x6 (ix2 (rowOf k r) (Spec.col b l)) := by
  unfold blkM
  rw [pay_m, blkSum_apply, blkClip_apply]
  simp only [ldParam_apply]
  rfl

theorem blkV_apply : blkV (F := Ideal) arg4 arg5 arg8 (ldPart arg1 (harg1.unread x0)) (ldWord arg2 (harg2.unread x1)) (ldWord arg3 (harg3.unread x2)) (harg4.unread x3) (harg5.unread x4) (harg8.unread x7) k b (ix2 r l) = gV x0 x1 x2 x3 x4 x7 (ix2 (rowOf k r) (Spec.col b l)) := by
  unfold blkV
  rw [pay_v, blkSum_apply, blkClip_apply]
  simp only [ldParam_apply]
  rfl

theorem blkUpd_apply : blkUpd (F := Ideal) arg4 arg5 arg6 arg7 arg8 (ldPart arg1 (harg1.unread x0)) (ldWord arg2 (harg2.unread x1)) (ldWord arg3 (harg3.unread x2)) (harg4.unread x3) (harg5.unread x4) (harg6.unread x5) (harg7.unread x6) (harg8.unread x7) k b (ix2 r l) = gUpd x0 x1 x2 x3 x4 x5 x6 x7 (ix2 (rowOf k r) (Spec.col b l)) := by
  unfold blkUpd
  rw [pay_upd, blkSum_apply, blkClip_apply]
  simp only [ldParam_apply]
  rfl

theorem blkMaster_apply : blkMaster (F := Ideal) arg4 arg5 arg6 arg7 arg8 (ldPart arg1 (harg1.unread x0)) (ldWord arg2 (harg2.unread x1)) (ldWord arg3 (harg3.unread x2)) (harg4.unread x3) (harg5.unread x4) (harg6.unread x5) (harg7.unread x6) (harg8.unread x7) k b (ix2 r l) = gMaster x0 x1 x2 x3 x4 x5 x6 x7 (ix2 (rowOf k r) (Spec.col b l)) := by
  unfold blkMaster
  rw [pay_master, blkSum_apply, blkClip_apply]
  simp only [ldParam_apply]
  rfl

theorem blkScale_apply (j : Fin 1) : mkScale (blkMaster (F := Ideal) arg4 arg5 arg6 arg7 arg8 (ldPart arg1 (harg1.unread x0)) (ldWord arg2 (harg2.unread x1)) (ldWord arg3 (harg3.unread x2)) (harg4.unread x3) (harg5.unread x4) (harg6.unread x5) (harg7.unread x6) (harg8.unread x7) k b) (ix2 r j) = gScale x0 x1 x2 x3 x4 x5 x6 x7 (ix2 (rowOf k r) b) := by
  rw [mkScale_apply]
  simp only [blkMaster_apply]
  rfl

theorem blkCode_apply : mkCode (blkMaster (F := Ideal) arg4 arg5 arg6 arg7 arg8 (ldPart arg1 (harg1.unread x0)) (ldWord arg2 (harg2.unread x1)) (ldWord arg3 (harg3.unread x2)) (harg4.unread x3) (harg5.unread x4) (harg6.unread x5) (harg7.unread x6) (harg8.unread x7) k b) (ix2 r l) = gCode x0 x1 x2 x3 x4 x5 x6 x7 (ix2 (rowOf k r) (Spec.col b l)) := by
  rw [mkCode_apply]
  simp only [blkMaster_apply]
  show _ = Spec.rowCode (fac x0 x1 x2) (rowC x3 (rowOf k r)) (rowS x4 (rowOf k r)) (rowX x5 (rowOf k r)) (rowX x6 (rowOf k r)) (rowX x7 (rowOf k r))
    (Spec.col b l)
  unfold Spec.rowCode
  rw [Spec.blk_col]
  rfl

theorem out1_master (y : S64x5120.Idx) : out1_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y = gMaster x0 x1 x2 x3 x4 x5 x6 x7 y := by
  unfold out1_A_8
  refine View.read_writes_apply_of_pieces VO1_8 VO1_8.junk (gMaster x0 x1 x2 x3 x4 x5 x6 x7) _ ?_ y (cover1_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y)
  rw [run_master]
  intro p hp x
  obtain ⟨k, b, rfl⟩ := mem_both hp
  exact piece_eq _ _ _ _ (fun r l => by apply blkMaster_apply) x

theorem out1_m (y : S64x5120.Idx) : out1_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y = gM x0 x1 x2 x3 x4 x6 y := by
  unfold out1_A_9
  refine View.read_writes_apply_of_pieces VO1_9 VO1_9.junk (gM x0 x1 x2 x3 x4 x6) _ ?_ y (cover1_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y)
  rw [run_m]
  intro p hp x
  obtain ⟨k, b, rfl⟩ := mem_both hp
  exact piece_eq _ _ _ _ (fun r l => by apply blkM_apply) x

theorem out1_v (y : S64x5120.Idx) : out1_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y = gV x0 x1 x2 x3 x4 x7 y := by
  unfold out1_A_10
  refine View.read_writes_apply_of_pieces VO1_10 VO1_10.junk (gV x0 x1 x2 x3 x4 x7) _ ?_ y (cover1_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y)
  rw [run_v]
  intro p hp x
  obtain ⟨k, b, rfl⟩ := mem_both hp
  exact piece_eq _ _ _ _ (fun r l => by apply blkV_apply) x

theorem out1_upd (y : S64x5120.Idx) : out1_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y = gUpd x0 x1 x2 x3 x4 x5 x6 x7 y := by
  unfold out1_A_11
  refine View.read_writes_apply_of_pieces VO1_11 VO1_11.junk (gUpd x0 x1 x2 x3 x4 x5 x6 x7) _ ?_ y (cover1_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y)
  rw [run_upd]
  intro p hp x
  obtain ⟨k, b, rfl⟩ := mem_both hp
  exact piece_eq _ _ _ _ (fun r l => by apply blkUpd_apply) x

theorem out1_code (y : S64x5120.Idx) : out1_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y = gCode x0 x1 x2 x3 x4 x5 x6 x7 y := by
  unfold out1_A_13
  refine View.read_writes_apply_of_pieces VO1_13 VO1_13.junk (gCode x0 x1 x2 x3 x4 x5 x6 x7) _ ?_ y (cover1_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y)
  rw [run_code]
  intro p hp x
  obtain ⟨k, b, rfl⟩ := mem_both hp
  exact piece_eq _ _ _ _ (fun r l => by apply blkCode_apply) x

theorem out1_scale (y : S64x40.Idx) : out1_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y = gScale x0 x1 x2 x3 x4 x5 x6 x7 y := by
  unfold out1_A_14
  refine View.read_writes_apply_of_pieces VO1_14 VO1_14.junk (gScale x0 x1 x2 x3 x4 x5 x6 x7) _ ?_ y (cover1_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y)
  rw [run_scale]
  intro p hp x
  obtain ⟨k, b, rfl⟩ := mem_both hp
  exact pieceOut_eq _ _ _ _ (fun r j => by apply blkScale_apply) x

theorem out1_norm (y : S1.Idx) : out1_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y = Spec.norm (∑ i : Fin 32, ∑ j : Fin 128, x0 (ix2 i j)) (x1 (ix1 0)) := by
  unfold out1_A_12
  refine View.read_writes_apply_of_pieces VO1_12 VO1_12.junk (fun _ => Spec.norm (∑ i : Fin 32, ∑ j : Fin 128, x0 (ix2 i j)) (x1 (ix1 0))) _ ?_ y (cover1_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y)
  rw [run_norm]
  intro p hp x
  obtain rfl := List.mem_singleton.1 hp
  show k1_pay2 (F := Ideal) _ _ = _
  rw [ldPart_eq, ldWord_apply, pay_norm]

end Value

end Cert.KernelIdeal.Value

end
-- ==== Proof.Region0.lean ====
/- The first kernel: the squares of the gradient sums, added up over the 64 points, the four trips of a point and the 40
   blocks of a trip, for every place of a block. -/
module

public import proofs.«01_k».proof.Proof.Point1
public import Idealize.ShloMosaic.Lib.Pipeline.ValueKit

@[expose] public section

set_option maxRecDepth 16384

noncomputable section

namespace Cert.KernelIdeal.Value

open Idealize.ShloMosaic Idealize.ShloMosaic.TcCoe Idealize.SL.Sem Idealize.ShloMosaic.Tactic
open Idealize.ShloMosaic.Pipeline (Dat)
open Cert.KernelIdeal Cert.KernelIdeal.Gen

/-! ### One trip -/

/-- The first row of trip `k`, as the kernel computes it. -/
def row0 (k : Fin k0_t1_loop.trips) : ℕ := (Scalar.indexCast (Scalar.muli (Scf.iv 0#32 1#32 k) 32#32) : Index).toNat

theorem row0_eq : ∀ k : Fin k0_t1_loop.trips, row0 k = 32 * k.val := by decide +kernel

theorem trips0 : k0_t1_loop.trips = 4 := by decide +kernel

theorem row0_le (k : Fin k0_t1_loop.trips) : row0 k + 32 ≤ 128 := by
  have := row0_eq k
  have := k.isLt
  have := trips0
  omega

/-- Where trip `k` finds block `b` in the codes of rank `a` and in their scales. -/
def offCode0 (k : Fin k0_t1_loop.trips) (a : ℕ) (b : ℕ) : Fin 3 → ℕ := ![a, row0 k, 128 * b]
def offScale0 (k : Fin k0_t1_loop.trips) (a : ℕ) (b : ℕ) : Fin 3 → ℕ := ![a, row0 k, b]

theorem offCode0_inb (k : Fin k0_t1_loop.trips) (a : Fin 4) (b : Fin 40) : ∀ i, offCode0 k a b i + S1x32x128.size i ≤ S4x128x5120.size i := by
  have := row0_le k
  intro i; fin_cases i <;> simp [offCode0] <;> omega

theorem offScale0_inb (k : Fin k0_t1_loop.trips) (a : Fin 4) (b : Fin 40) : ∀ i, offScale0 k a b i + S1x32x1.size i ≤ S4x128x40.size i := by
  have := row0_le k
  intro i; fin_cases i <;> simp [offScale0] <;> omega

section Trip

variable {F : FTy → Type} [FloatOps F] [Named F]

section Block

variable (arg1 : Memref sig .tc .vmem S4x128x5120 .fp8e5m2) (arg2 : Memref sig .tc .vmem S4x128x40 .f32)
  (X1 : BufTy.Contents (Elt F) arg1.view.ty) (X2 : BufTy.Contents (Elt F) arg2.view.ty) (k : Fin k0_t1_loop.trips) (b : Fin 40) (a : Fin 4)

def ldCode0 : Vec F S1x32x128 .fp8e5m2 :=
  View.readAt (Elt F) arg1.view (Rect.unit (s := S4x128x5120) (offCode0 k a b) S1x32x128.size (offCode0_inb k a b)).toLoadRect X1
def ldScale0 : Vec F S1x32x1 .f32 :=
  View.readAt (Elt F) arg2.view (Rect.unit (s := S4x128x40) (offScale0 k a b) S1x32x1.size (offScale0_inb k a b)).toLoadRect X2

/-- The gradient block summed over the ranks. -/
def blkSum0 : FVec F S32x128 .f32 :=
  k0_pay5 (ldCode0 arg1 X1 k b 0) (ldScale0 arg2 X2 k b 0) (ldCode0 arg1 X1 k b 1) (ldScale0 arg2 X2 k b 1)
    (ldCode0 arg1 X1 k b 2) (ldScale0 arg2 X2 k b 2) (ldCode0 arg1 X1 k b 3) (ldScale0 arg2 X2 k b 3)

end Block

/-- The blocks of a list added to what came before, the last in the list first. -/
def addBlocks (g : Fin 40 → FVec F S32x128 .f32) (L : List (Fin 40)) (acc : FVec F S32x128 .f32) : FVec F S32x128 .f32 :=
  L.foldr (fun b acc => k0_pay6 acc (g b) (Scalar.ofBits .f32 0x3E800000#32)) acc

set_option maxHeartbeats 2000000 in
/-- A trip adds its 40 blocks. -/
theorem trip_sum (𝒱 : Variants) (c : Dev nD) (bd : Option 𝒱.V) (i : grid0.Coords) (arg1 : Memref sig .tc .vmem S4x128x5120 .fp8e5m2) (harg1 : arg1.IsWhole) (arg2 : Memref sig .tc .vmem S4x128x40 .f32) (harg2 : arg2.IsWhole) (arg3 : Memref sig .tc .vmem S32x128 .f32) (harg3 : arg3.IsWhole) (X_arg1 : BufTy.Contents (Elt F) arg1.view.ty) (X_arg2 : BufTy.Contents (Elt F) arg2.view.ty) (k : Fin k0_t1_loop.trips) (acc : FVec F S32x128 .f32) :
    (trip_k0_t1 (F := F) 𝒱 c bd i arg1 harg1 arg2 harg2 arg3 harg3 X_arg1 X_arg2 k).1 acc = addBlocks (blkSum0 arg1 arg2 X_arg1 X_arg2 k) order acc := by
  sl_kernel_rfl

end Trip

/-! ### At a place of a block -/

section Load

variable (k : Fin k0_t1_loop.trips) (b : Fin 40) (a : Fin 4) (r : Fin 32) (l : Fin 128)

/-- Row `r` of trip `k` in the point's 128 rows. -/
def rowOf0 (k : Fin k0_t1_loop.trips) (r : Fin 32) : Fin 128 := ⟨row0 k + r.val, by have := row0_le k; omega⟩

theorem ldCode0_apply (arg : Memref sig .tc .vmem S4x128x5120 .fp8e5m2) (h : arg.IsWhole) (x : Vec Ideal S4x128x5120 .fp8e5m2) :
    ldCode0 arg (h.unread x) k b a (ix3 0 r l) = x (ix3 a (rowOf0 k r) (Spec.col b l)) := by
  unfold ldCode0
  rw [h.readAt_unread]
  congr 1
  funext i; fin_cases i <;> apply Fin.ext <;> simp [ix3, LoadRect.idx, offCode0, rowOf0, Spec.col]

theorem ldScale0_apply (arg : Memref sig .tc .vmem S4x128x40 .f32) (h : arg.IsWhole) (x : Vec Ideal S4x128x40 .f32) :
    ldScale0 arg (h.unread x) k b a (ix3 0 r 0) = x (ix3 a (rowOf0 k r) b) := by
  unfold ldScale0
  rw [h.readAt_unread]
  congr 1
  funext i; fin_cases i <;> apply Fin.ext <;> simp [ix3, LoadRect.idx, offScale0, rowOf0]

end Load

theorem pay0_sum (a0 a1 a2 a3 : FVec Ideal S1x32x128 .fp8e5m2) (s0 s1 s2 s3 : FVec Ideal S1x32x1 .f32) (i : Fin 32) (j : Fin 128) :
    k0_pay5 (F := Ideal) a0 s0 a1 s1 a2 s2 a3 s3 (ix2 i j)
      = a0 (ix3 0 i j) * s0 (ix3 0 i 0) + a1 (ix3 0 i j) * s1 (ix3 0 i 0) + a2 (ix3 0 i j) * s2 (ix3 0 i 0) + a3 (ix3 0 i j) * s3 (ix3 0 i 0) := by
  pointwise [k0_pay5]

theorem pay0_add (acc g : FVec Ideal S32x128 .f32) (i : Fin 32) (j : Fin 128) :
    k0_pay6 (F := Ideal) acc g (Scalar.ofBits .f32 0x3E800000#32) (ix2 i j) = acc (ix2 i j) + Spec.sq (g (ix2 i j)) := by
  pointwise [k0_pay6, Spec.sq, Spec.quarter]

theorem pay0_zero (i : Fin 32) (j : Fin 128) : k0_pay2 (F := Ideal) (ix2 i j) = (0 : EReal) := by
  pointwise [k0_pay2]

theorem pay0_store (x v : FVec Ideal S32x128 .f32) (i : Fin 32) (j : Fin 128) : k0_pay4 (F := Ideal) x v (ix2 i j) = x (ix2 i j) + v (ix2 i j) := by
  pointwise [k0_pay4]

theorem pay0_init (i : Fin 32) (j : Fin 128) : k0_pay1 (F := Ideal) (ix2 i j) = (0 : EReal) := by
  pointwise [k0_pay1]

theorem addBlocks_apply (g : Fin 40 → FVec Ideal S32x128 .f32) (L : List (Fin 40)) (acc : FVec Ideal S32x128 .f32) (i : Fin 32) (j : Fin 128) :
    (addBlocks g L acc (ix2 i j) : EReal) = acc (ix2 i j) + (L.map fun b => Spec.sq (g b (ix2 i j))).sum := by
  induction L with
  | nil => simp [addBlocks]
  | cons b L ih =>
    have h : addBlocks g (b :: L) acc = k0_pay6 (F := Ideal) (addBlocks g L acc) (g b) (Scalar.ofBits .f32 0x3E800000#32) := rfl
    rw [h, pay0_add, ih, List.map_cons, List.sum_cons, add_assoc, add_comm (List.sum _)]

theorem sum_order (f : Fin 40 → EReal) : (order.map f).sum = ∑ b : Fin 40, f b := by
  rw [show order = (List.finRange 40).reverse from by decide +kernel, List.map_reverse, List.sum_reverse, Fin.sum_univ_def]

/-! ### One point -/

/-- The squares a trip, and a point, adds at place `(i, j)` of the block. -/
def trip0Sum (x0 : FVec Ideal S4x128x5120 .fp8e5m2) (x1 : FVec Ideal S4x128x40 .f32) (i : Fin 32) (j : Fin 128) (k : Fin k0_t1_loop.trips) : EReal :=
  ∑ b : Fin 40, Spec.sq (Spec.gsum (fun a q => x0 (ix3 a (rowOf0 k i) q)) (fun a q => x1 (ix3 a (rowOf0 k i) q)) (Spec.col b j))
def point0Sum (x0 : FVec Ideal S4x128x5120 .fp8e5m2) (x1 : FVec Ideal S4x128x40 .f32) (i : Fin 32) (j : Fin 128) : EReal :=
  ∑ k : Fin k0_t1_loop.trips, trip0Sum x0 x1 i j k

section Point

variable (𝒱 : Variants) (c : Dev nD) (bd : Option 𝒱.V) (i : grid0.Coords) (arg1 : Memref sig .tc .vmem S4x128x5120 .fp8e5m2) (harg1 : arg1.IsWhole) (arg2 : Memref sig .tc .vmem S4x128x40 .f32) (harg2 : arg2.IsWhole) (arg3 : Memref sig .tc .vmem S32x128 .f32) (harg3 : arg3.IsWhole)  (x0 : Vec Ideal S4x128x5120 .fp8e5m2) (x1 : Vec Ideal S4x128x40 .f32)

theorem blkSum0_apply (k : Fin k0_t1_loop.trips) (b : Fin 40) (r : Fin 32) (l : Fin 128) :
    blkSum0 (F := Ideal) arg1 arg2 (harg1.unread x0) (harg2.unread x1) k b (ix2 r l)
      = Spec.gsum (fun a q => x0 (ix3 a (rowOf0 k r) q)) (fun a q => x1 (ix3 a (rowOf0 k r) q)) (Spec.col b l) := by
  unfold blkSum0
  rw [pay0_sum]
  simp only [ldCode0_apply, ldScale0_apply, Spec.gsum, Fin.sum_univ_four, Spec.blk_col]

/-- What is carried after `n` trips. -/
theorem carried (init : FVec Ideal S32x128 .f32) (r : Fin 32) (l : Fin 128) : ∀ (n : ℕ) (hn : n ≤ k0_t1_loop.trips),
    (st_k0_t1 (F := Ideal) 𝒱 c bd i arg1 harg1 arg2 harg2 arg3 harg3 (harg1.unread x0) (harg2.unread x1) init n (ix2 r l) : EReal)
      = init (ix2 r l) + ∑ k : Fin n, trip0Sum x0 x1 r l (k.castLE hn)
  | 0, _ => by rw [st_k0_t1_zero, Fin.sum_univ_zero, add_zero]
  | n + 1, hn => by
    have h := st_k0_t1_succ (F := Ideal) 𝒱 c bd i arg1 harg1 arg2 harg2 arg3 harg3 (harg1.unread x0) (harg2.unread x1) init ⟨n, hn⟩
    rw [show st_k0_t1 (F := Ideal) 𝒱 c bd i arg1 harg1 arg2 harg2 arg3 harg3 (harg1.unread x0) (harg2.unread x1) init (n + 1) = _ from h, Fin.sum_univ_castSucc, ← add_assoc]
    unfold tripR_k0_t1
    rw [trip_sum, addBlocks_apply, sum_order, carried init r l n (Nat.le_of_succ_le hn)]
    simp only [blkSum0_apply]
    rfl

end Point

theorem out0_first (c : Dev nD) (i : grid0.Coords) (arg1 : Memref sig .tc .vmem S4x128x5120 .fp8e5m2) (harg1 : arg1.IsWhole) (arg2 : Memref sig .tc .vmem S4x128x40 .f32) (harg2 : arg2.IsWhole) (arg3 : Memref sig .tc .vmem S32x128 .f32) (harg3 : arg3.IsWhole) (hc0 : cond0_0 i) (x0 : Vec Ideal S4x128x5120 .fp8e5m2) (x1 : Vec Ideal S4x128x40 .f32) (r : Fin 32) (l : Fin 128) :
    (out0_A_2 (F := Ideal) c i arg1 harg1 arg2 harg2 arg3 harg3 hc0 x0 x1 (ix2 r l) : EReal) = 0 + point0Sum x0 x1 r l := by
  have h : out0_A_2 (F := Ideal) c i arg1 harg1 arg2 harg2 arg3 harg3 hc0 x0 x1
      = k0_pay4 (k0_pay1 (F := Ideal)) (st_k0_t1 Variants.none c none i arg1 harg1 arg2 harg2 arg3 harg3 (harg1.unread x0) (harg2.unread x1) k0_pay2 k0_t1_loop.trips) := by
    funext y
    frame_out
  rw [h, pay0_store, pay0_init, carried (hn := le_refl _), pay0_zero, zero_add]
  rfl

theorem out0_next (c : Dev nD) (i : grid0.Coords) (arg1 : Memref sig .tc .vmem S4x128x5120 .fp8e5m2) (harg1 : arg1.IsWhole) (arg2 : Memref sig .tc .vmem S4x128x40 .f32) (harg2 : arg2.IsWhole) (arg3 : Memref sig .tc .vmem S32x128 .f32) (harg3 : arg3.IsWhole) (hc0 : ¬cond0_0 i) (x0 : Vec Ideal S4x128x5120 .fp8e5m2) (x1 : Vec Ideal S4x128x40 .f32) (xo2 : Vec Ideal S32x128 .f32) (r : Fin 32) (l : Fin 128) :
    (out0_B_2 (F := Ideal) c i arg1 harg1 arg2 harg2 arg3 harg3 hc0 x0 x1 xo2 (ix2 r l) : EReal) = xo2 (ix2 r l) + point0Sum x0 x1 r l := by
  have h : out0_B_2 (F := Ideal) c i arg1 harg1 arg2 harg2 arg3 harg3 hc0 x0 x1 xo2
      = k0_pay4 xo2 (st_k0_t1 Variants.none c none i arg1 harg1 arg2 harg2 arg3 harg3 (harg1.unread x0) (harg2.unread x1) k0_pay2 k0_t1_loop.trips) := by
    funext y
    frame_out
  rw [h, pay0_store, carried (hn := le_refl _), pay0_zero, zero_add]
  rfl

/-! ### The whole run -/

theorem N0 : cfg0.N = 64 := (by decide +kernel : grid0.N = 64)

/-- The first kernel's blocks: the row groups in order, and the one block of the result. -/
theorem idx0 : ∀ t : Fin cfg0.N, win0_0.index t = ![0, t.val, 0] ∧ win0_1.index t = ![0, t.val, 0] ∧ win0_2.index t = ![0, 0] :=
  (by decide +kernel : ∀ t : Fin grid0.N, _)

/-- Row `r` of the group of point `t`. -/
def grow0 (t : Fin cfg0.N) (r : Fin 128) : Fin 8192 := ⟨128 * t.val + r.val, by have := N0; have := t.isLt; omega⟩

section Run

variable (V : (c : Dev nD) → (b : Ref sig .tc) → Buf (Elt Ideal) ((c : Thread nD τ).loc b)) (c : Dev nD) (t : Fin cfg0.N)

/-- The codes and scales the kernel is entered with. -/
abbrev iCode : FVec Ideal S4x8192x5120 .fp8e5m2 := V c main_arg0
abbrev iScale : FVec Ideal S4x8192x40 .f32 := V c main_arg1

theorem blk0_code (a : Fin 4) (r : Fin 128) (q : Fin 5120) :
    (show FVec Ideal S4x128x5120 .fp8e5m2 from iblk0 V c 0 t) (ix3 a r q) = iCode V c (ix3 a (grow0 t r) q) := by
  blk_ext [iblk0, idx0 t, grow0]

theorem blk0_scale (a : Fin 4) (r : Fin 128) (q : Fin 40) :
    (show FVec Ideal S4x128x40 .f32 from iblk0 V c 1 t) (ix3 a r q) = iScale V c (ix3 a (grow0 t r) q) := by
  blk_ext [iblk0, idx0 t, grow0]

/-- The square of the gradient sum at a place of the array. -/
def sqAt (A0 : FVec Ideal S4x8192x5120 .fp8e5m2) (A1 : FVec Ideal S4x8192x40 .f32) (r : Fin 8192) (q : Fin 5120) : EReal :=
  Spec.sq (Spec.gsum (fun a q => A0 (ix3 a r q)) (fun a b => A1 (ix3 a r b)) q)

/-- What the run leaves at a place of the block. -/
def acc0 (y : S32x128.Idx) : EReal :=
  ∑ t : Fin cfg0.N, ∑ k : Fin k0_t1_loop.trips, ∑ b : Fin 40, sqAt (iCode V c) (iScale V c) (grow0 t (rowOf0 k (y 0))) (Spec.col b (y 1))

theorem point0_eq (r : Fin 32) (l : Fin 128) : point0Sum (iblk0 V c 0 t) (iblk0 V c 1 t) r l
    = ∑ k : Fin k0_t1_loop.trips, ∑ b : Fin 40, sqAt (iCode V c) (iScale V c) (grow0 t (rowOf0 k r)) (Spec.col b l) := by
  unfold point0Sum trip0Sum sqAt
  refine Finset.sum_congr rfl fun k _ => Finset.sum_congr rfl fun b _ => ?_
  rw [show (fun (a : Fin 4) (q : Fin 5120) => (show FVec Ideal S4x128x5120 .fp8e5m2 from iblk0 V c 0 t) (ix3 a (rowOf0 k r) q)) = fun a q => iCode V c (ix3 a (grow0 t (rowOf0 k r)) q)
      from funext fun a => funext fun q => blk0_code V c t a _ q,
    show (fun (a : Fin 4) (q : Fin 40) => (show FVec Ideal S4x128x40 .f32 from iblk0 V c 1 t) (ix3 a (rowOf0 k r) q)) = fun a q => iScale V c (ix3 a (grow0 t (rowOf0 k r)) q)
      from funext fun a => funext fun q => blk0_scale V c t a _ q]

/-- After point `n` the block holds the sum over the points up to it. -/
theorem outs0 (r : Fin 32) (l : Fin 128) : ∀ (n : ℕ) (hn : n < cfg0.N),
    (outsAt0 V c n hn (ix2 r l) : EReal) = ∑ s : Fin (n + 1), point0Sum (iblk0 V c 0 (s.castLE hn)) (iblk0 V c 1 (s.castLE hn)) r l
  | 0, hn => by
    rw [show outsAt0 V c 0 hn = _ from outsAt0_A V c ⟨0, hn⟩ rfl, out0_first, zero_add, Fin.sum_univ_one]
    rfl
  | n + 1, hn => by
    have h : ¬ (n + 1) % 64 = 0 := by have := N0; omega
    rw [show outsAt0 V c (n + 1) hn = _ from outsAt0_B V c ⟨n + 1, hn⟩ h, out0_next, Fin.sum_univ_castSucc]
    refine congrArg₂ (fun a b : EReal => a + b) ?_ rfl
    exact outs0 r l n (Nat.lt_of_succ_lt hn)

theorem final_acc : (dat0 V c).arrAt 2 cfg0.N = acc0 V c := by
  refine (dat0 V c).arrAt_eq_of_covers 2 (acc0 V c) (by decide +kernel) fun t hf y => ?_
  blk_simp
  rw [after0_2]
  obtain ⟨r, l, rfl⟩ : ∃ (r : Fin 32) (l : Fin 128), y = (show S32x128.Idx from ix2 r l) := ⟨_, _, eq_ix2 (n0 := 32) (n1 := 128) y⟩
  have ht : t.val + 1 = cfg0.N := by have := N0; have := (flush0_2 t).mp hf; have := t.isLt; omega
  have e : (((cfg0.win 2).blk t).view.emb (show S32x128.Idx from ix2 r l) : S32x128.Idx) = ix2 r l := by blk_ext [idx0 t]
  refine (outs0 V c r l t.val t.isLt).trans (Eq.trans ?_ (congrArg (acc0 V c) e.symm))
  simp only [point0_eq]
  show _ = ∑ s : Fin cfg0.N, _
  exact Fintype.sum_equiv (finCongr ht) _ _ fun s => rfl

/-- A sum over consecutive groups. -/
theorem sum_groups {N : ℕ} (m n : ℕ) (hN : m * n = N) (g : Fin N → EReal) :
    ∑ x, g x = ∑ a : Fin m, ∑ b : Fin n, g ⟨b.val + n * a.val, hN ▸ (finProdFinEquiv (a, b)).isLt⟩ := by
  subst hN
  rw [← Fintype.sum_prod_type' (fun (a : Fin m) (b : Fin n) => g ⟨b.val + n * a.val, (finProdFinEquiv (a, b)).isLt⟩)]
  exact (Fintype.sum_equiv finProdFinEquiv _ _ fun x => rfl).symm

/-- Over all places of the block, the run leaves the sum over the whole array. -/
theorem acc0_sum : ∑ i : Fin 32, ∑ j : Fin 128, acc0 V c (ix2 i j) = ∑ r : Fin 8192, ∑ q : Fin 5120, sqAt (iCode V c) (iScale V c) r q := by
  have hcol : ∀ r : Fin 8192, ∑ q : Fin 5120, sqAt (iCode V c) (iScale V c) r q
      = ∑ b : Fin 40, ∑ l : Fin 128, sqAt (iCode V c) (iScale V c) r (Spec.col b l) := fun r => by
    rw [sum_groups 40 128 rfl]
    refine Finset.sum_congr rfl fun b _ => Finset.sum_congr rfl fun l _ => congrArg _ (Fin.ext ?_)
    simp only [Spec.col]; omega
  have hrow : ∀ g : Fin 8192 → EReal, ∑ r : Fin 8192, g r
      = ∑ t : Fin cfg0.N, ∑ k : Fin k0_t1_loop.trips, ∑ i : Fin 32, g (grow0 t (rowOf0 k i)) := fun g => by
    rw [sum_groups cfg0.N 128 (by rw [N0])]
    refine Finset.sum_congr rfl fun t _ => ?_
    rw [sum_groups k0_t1_loop.trips 32 (by rw [trips0])]
    refine Finset.sum_congr rfl fun k _ => Finset.sum_congr rfl fun i _ => congrArg _ (Fin.ext ?_)
    have := row0_eq k
    simp only [grow0, rowOf0]; omega
  rw [hrow]
  simp only [hcol]
  show ∑ i : Fin 32, ∑ j : Fin 128, ∑ t : Fin cfg0.N, ∑ k : Fin k0_t1_loop.trips, ∑ b : Fin 40, sqAt (iCode V c) (iScale V c) (grow0 t (rowOf0 k i)) (Spec.col b j) = _
  rw [Finset.sum_congr rfl fun i _ => Finset.sum_comm]
  rw [Finset.sum_comm]
  refine Finset.sum_congr rfl fun t _ => ?_
  rw [Finset.sum_congr rfl fun i _ => Finset.sum_comm]
  rw [Finset.sum_comm]
  refine Finset.sum_congr rfl fun k _ => Finset.sum_congr rfl fun i _ => ?_
  exact Finset.sum_comm

end Run

end Cert.KernelIdeal.Value

end
-- ==== Proof.Region1.lean ====
/- The arrays the second kernel leaves, from the arrays it is entered with: its 128 points cover the rows in groups of
   64, and every element is the row function of Spec.lean at its own row. -/
module

public import proofs.«01_k».proof.Proof.Point1
public import Idealize.ShloMosaic.Lib.Pipeline.ValueKit

@[expose] public section

set_option maxRecDepth 16384

noncomputable section

namespace Cert.KernelIdeal.Value

open Idealize.ShloMosaic Idealize.ShloMosaic.TcCoe Idealize.SL.Sem Idealize.ShloMosaic.Tactic
open Idealize.ShloMosaic.Pipeline (Dat)
open Cert.KernelIdeal Cert.KernelIdeal.Gen

/-- The second kernel's blocks: the row groups in order, and the two whole small arrays at every point. -/
theorem idx1 : ∀ t : Fin cfg1.N, win1_0.index t = ![0, 0] ∧ win1_1.index t = ![0] ∧ win1_2.index t = ![0]
    ∧ win1_3.index t = ![0, t.val, 0] ∧ win1_4.index t = ![0, t.val, 0] ∧ win1_5.index t = ![t.val, 0] ∧ win1_6.index t = ![t.val, 0]
    ∧ win1_7.index t = ![t.val, 0] ∧ win1_8.index t = ![t.val, 0] ∧ win1_9.index t = ![t.val, 0] ∧ win1_10.index t = ![t.val, 0]
    ∧ win1_11.index t = ![t.val, 0] ∧ win1_12.index t = ![0] ∧ win1_13.index t = ![t.val, 0] ∧ win1_14.index t = ![t.val, 0] :=
  (by decide +kernel : ∀ t : Fin grid1.N, _)

/-- Row `r` of the group of point `t`. -/
def grow (t : Fin cfg1.N) (r : Fin 64) : Fin 8192 :=
  ⟨64 * t.val + r.val, by have h : cfg1.N = 128 := (by decide +kernel : grid1.N = 128); have := t.isLt; omega⟩

variable (V : (c : Dev nD) → (b : Ref sig .tc) → Buf (Elt Ideal) ((c : Thread nD τ).loc b)) (c : Dev nD) (t : Fin cfg1.N)

/-- The arrays the kernel is entered with, at their own types. -/
abbrev eAcc : FVec Ideal S32x128 .f32 := V c main_v0
abbrev eCode : FVec Ideal S4x8192x5120 .fp8e5m2 := V c main_arg0
abbrev eScale : FVec Ideal S4x8192x40 .f32 := V c main_arg1
abbrev eMaster : FVec Ideal S8192x5120 .f32 := V c main_arg2
abbrev eM : FVec Ideal S8192x5120 .f32 := V c main_arg3
abbrev eV : FVec Ideal S8192x5120 .f32 := V c main_arg4
abbrev eOther : FVec Ideal S1 .f32 := V c main_arg5
abbrev eMax : FVec Ideal S1 .f32 := V c main_arg6

/-- The blocks at a point. -/
theorem blk_acc : (show FVec Ideal S32x128 .f32 from iblk1 V c 0 t) = eAcc V c := by blk_ext! [iblk1, idx1 t]
theorem blk_other : (show FVec Ideal S1 .f32 from iblk1 V c 1 t) = eOther V c := by blk_ext! [iblk1, idx1 t]
theorem blk_max : (show FVec Ideal S1 .f32 from iblk1 V c 2 t) = eMax V c := by blk_ext! [iblk1, idx1 t]

theorem blk_code (a : Fin 4) (r : Fin 64) (q : Fin 5120) :
    (show FVec Ideal S4x64x5120 .fp8e5m2 from iblk1 V c 3 t) (ix3 a r q) = eCode V c (ix3 a (grow t r) q) := by
  blk_ext [iblk1, idx1 t, grow]

theorem blk_scale (a : Fin 4) (r : Fin 64) (q : Fin 40) :
    (show FVec Ideal S4x64x40 .f32 from iblk1 V c 4 t) (ix3 a r q) = eScale V c (ix3 a (grow t r) q) := by
  blk_ext [iblk1, idx1 t, grow]

theorem blk_master (r : Fin 64) (q : Fin 5120) :
    (show FVec Ideal S64x5120 .f32 from iblk1 V c 5 t) (ix2 r q) = eMaster V c (ix2 (grow t r) q) := by
  blk_ext [iblk1, idx1 t, grow]

theorem blk_m (r : Fin 64) (q : Fin 5120) :
    (show FVec Ideal S64x5120 .f32 from iblk1 V c 6 t) (ix2 r q) = eM V c (ix2 (grow t r) q) := by
  blk_ext [iblk1, idx1 t, grow]

theorem blk_v (r : Fin 64) (q : Fin 5120) :
    (show FVec Ideal S64x5120 .f32 from iblk1 V c 7 t) (ix2 r q) = eV V c (ix2 (grow t r) q) := by
  blk_ext [iblk1, idx1 t, grow]

/-- The factor on the gradient sum, and row `r` of each array. -/
def eFac : EReal := Spec.factor (eMax V c (ix1 0)) (∑ i : Fin 32, ∑ j : Fin 128, eAcc V c (ix2 i j)) (eOther V c (ix1 0))
def eC (r : Fin 8192) : Fin 4 → Fin 5120 → EReal := fun a q => eCode V c (ix3 a r q)
def eS (r : Fin 8192) : Fin 4 → Fin 40 → EReal := fun a q => eScale V c (ix3 a r q)
def eRow (X : FVec Ideal S8192x5120 .f32) (r : Fin 8192) : Fin 5120 → EReal := fun q => X (ix2 r q)

theorem fac_eq : fac (iblk1 V c 0 t) (iblk1 V c 1 t) (iblk1 V c 2 t) = eFac V c := by
  rw [show iblk1 V c 0 t = eAcc V c from blk_acc V c t, show iblk1 V c 1 t = eOther V c from blk_other V c t,
    show iblk1 V c 2 t = eMax V c from blk_max V c t]
  rfl

theorem rowC_eq (r : Fin 64) : rowC (iblk1 V c 3 t) r = eC V c (grow t r) := by
  funext a q; exact blk_code V c t a r q
theorem rowS_eq (r : Fin 64) : rowS (iblk1 V c 4 t) r = eS V c (grow t r) := by
  funext a q; exact blk_scale V c t a r q
theorem rowP_eq (r : Fin 64) : rowX (iblk1 V c 5 t) r = eRow (eMaster V c) (grow t r) := by
  funext q; exact blk_master V c t r q
theorem rowM_eq (r : Fin 64) : rowX (iblk1 V c 6 t) r = eRow (eM V c) (grow t r) := by
  funext q; exact blk_m V c t r q
theorem rowV_eq (r : Fin 64) : rowX (iblk1 V c 7 t) r = eRow (eV V c) (grow t r) := by
  funext q; exact blk_v V c t r q

/-- The new parameters after the run. -/
def rMaster : FVec Ideal S8192x5120 .f32 := fun y => Spec.rowMaster (eFac V c) (eC V c (y 0)) (eS V c (y 0)) (eRow (eMaster V c) (y 0)) (eRow (eM V c) (y 0)) (eRow (eV V c) (y 0)) (y 1)

theorem point_master (r : Fin 64) (q : Fin 5120) : (outsAt1 V c t).1 (ix2 r q) = rMaster V c (ix2 (grow t r) q) := by
  refine (out1_master _ _ _ _ _ _ _ _ _ _ _ _ _ _ _ _ _ _ _ _ _ _ _ _ _ _ _ _ _ _ _ _ _ _ _ _ _ _ _ _ _).trans ?_
  show Spec.rowMaster (fac (iblk1 V c 0 t) (iblk1 V c 1 t) (iblk1 V c 2 t)) (rowC (iblk1 V c 3 t) r) (rowS (iblk1 V c 4 t) r) (rowX (iblk1 V c 5 t) r) (rowX (iblk1 V c 6 t) r) (rowX (iblk1 V c 7 t) r) q = _
  rw [fac_eq, rowC_eq, rowS_eq, rowP_eq, rowM_eq, rowV_eq]
  rfl

theorem emb_master (r : Fin 64) (q : Fin 5120) : (((cfg1.win 8).blk t).view.emb (show S64x5120.Idx from ix2 r q) : S8192x5120.Idx) = ix2 (grow t r) q := by
  blk_ext [idx1 t, grow]

theorem final_master : (dat1 V c).arrAt 8 cfg1.N = rMaster V c := by
  refine (dat1 V c).arrAt_eq_of_covers 8 (rMaster V c) (by decide +kernel) fun t hf y => ?_
  blk_simp
  rw [after1_8]
  obtain ⟨r, q, rfl⟩ : ∃ (r : Fin 64) (q : Fin 5120), y = (show S64x5120.Idx from ix2 r q) := ⟨_, _, eq_ix2 (n0 := 64) (n1 := 5120) y⟩
  exact (point_master V c t r q).trans (congrArg (rMaster V c) (emb_master t r q).symm)

/-- The first moments after the run. -/
def rM : FVec Ideal S8192x5120 .f32 := fun y => Spec.rowM (eFac V c) (eC V c (y 0)) (eS V c (y 0)) (eRow (eM V c) (y 0)) (y 1)

theorem point_m (r : Fin 64) (q : Fin 5120) : (outsAt1 V c t).2.1 (ix2 r q) = rM V c (ix2 (grow t r) q) := by
  refine (out1_m _ _ _ _ _ _ _ _ _ _ _ _ _ _ _ _ _ _ _ _ _ _ _ _ _ _ _ _ _ _ _ _ _ _ _ _ _ _ _ _ _).trans ?_
  show Spec.rowM (fac (iblk1 V c 0 t) (iblk1 V c 1 t) (iblk1 V c 2 t)) (rowC (iblk1 V c 3 t) r) (rowS (iblk1 V c 4 t) r) (rowX (iblk1 V c 6 t) r) q = _
  rw [fac_eq, rowC_eq, rowS_eq, rowM_eq]
  rfl

theorem emb_m (r : Fin 64) (q : Fin 5120) : (((cfg1.win 9).blk t).view.emb (show S64x5120.Idx from ix2 r q) : S8192x5120.Idx) = ix2 (grow t r) q := by
  blk_ext [idx1 t, grow]

theorem final_m : (dat1 V c).arrAt 9 cfg1.N = rM V c := by
  refine (dat1 V c).arrAt_eq_of_covers 9 (rM V c) (by decide +kernel) fun t hf y => ?_
  blk_simp
  rw [after1_9]
  obtain ⟨r, q, rfl⟩ : ∃ (r : Fin 64) (q : Fin 5120), y = (show S64x5120.Idx from ix2 r q) := ⟨_, _, eq_ix2 (n0 := 64) (n1 := 5120) y⟩
  exact (point_m V c t r q).trans (congrArg (rM V c) (emb_m t r q).symm)

/-- The second moments after the run. -/
def rV : FVec Ideal S8192x5120 .f32 := fun y => Spec.rowV (eFac V c) (eC V c (y 0)) (eS V c (y 0)) (eRow (eV V c) (y 0)) (y 1)

theorem point_v (r : Fin 64) (q : Fin 5120) : (outsAt1 V c t).2.2.1 (ix2 r q) = rV V c (ix2 (grow t r) q) := by
  refine (out1_v _ _ _ _ _ _ _ _ _ _ _ _ _ _ _ _ _ _ _ _ _ _ _ _ _ _ _ _ _ _ _ _ _ _ _ _ _ _ _ _ _).trans ?_
  show Spec.rowV (fac (iblk1 V c 0 t) (iblk1 V c 1 t) (iblk1 V c 2 t)) (rowC (iblk1 V c 3 t) r) (rowS (iblk1 V c 4 t) r) (rowX (iblk1 V c 7 t) r) q = _
  rw [fac_eq, rowC_eq, rowS_eq, rowV_eq]
  rfl

theorem emb_v (r : Fin 64) (q : Fin 5120) : (((cfg1.win 10).blk t).view.emb (show S64x5120.Idx from ix2 r q) : S8192x5120.Idx) = ix2 (grow t r) q := by
  blk_ext [idx1 t, grow]

theorem final_v : (dat1 V c).arrAt 10 cfg1.N = rV V c := by
  refine (dat1 V c).arrAt_eq_of_covers 10 (rV V c) (by decide +kernel) fun t hf y => ?_
  blk_simp
  rw [after1_10]
  obtain ⟨r, q, rfl⟩ : ∃ (r : Fin 64) (q : Fin 5120), y = (show S64x5120.Idx from ix2 r q) := ⟨_, _, eq_ix2 (n0 := 64) (n1 := 5120) y⟩
  exact (point_v V c t r q).trans (congrArg (rV V c) (emb_v t r q).symm)

/-- The updates after the run. -/
def rUpd : FVec Ideal S8192x5120 .f32 := fun y => Spec.rowUpd (eFac V c) (eC V c (y 0)) (eS V c (y 0)) (eRow (eMaster V c) (y 0)) (eRow (eM V c) (y 0)) (eRow (eV V c) (y 0)) (y 1)

theorem point_upd (r : Fin 64) (q : Fin 5120) : (outsAt1 V c t).2.2.2.1 (ix2 r q) = rUpd V c (ix2 (grow t r) q) := by
  refine (out1_upd _ _ _ _ _ _ _ _ _ _ _ _ _ _ _ _ _ _ _ _ _ _ _ _ _ _ _ _ _ _ _ _ _ _ _ _ _ _ _ _ _).trans ?_
  show Spec.rowUpd (fac (iblk1 V c 0 t) (iblk1 V c 1 t) (iblk1 V c 2 t)) (rowC (iblk1 V c 3 t) r) (rowS (iblk1 V c 4 t) r) (rowX (iblk1 V c 5 t) r) (rowX (iblk1 V c 6 t) r) (rowX (iblk1 V c 7 t) r) q = _
  rw [fac_eq, rowC_eq, rowS_eq, rowP_eq, rowM_eq, rowV_eq]
  rfl

theorem emb_upd (r : Fin 64) (q : Fin 5120) : (((cfg1.win 11).blk t).view.emb (show S64x5120.Idx from ix2 r q) : S8192x5120.Idx) = ix2 (grow t r) q := by
  blk_ext [idx1 t, grow]

theorem final_upd : (dat1 V c).arrAt 11 cfg1.N = rUpd V c := by
  refine (dat1 V c).arrAt_eq_of_covers 11 (rUpd V c) (by decide +kernel) fun t hf y => ?_
  blk_simp
  rw [after1_11]
  obtain ⟨r, q, rfl⟩ : ∃ (r : Fin 64) (q : Fin 5120), y = (show S64x5120.Idx from ix2 r q) := ⟨_, _, eq_ix2 (n0 := 64) (n1 := 5120) y⟩
  exact (point_upd V c t r q).trans (congrArg (rUpd V c) (emb_upd t r q).symm)

/-- The codes after the run. -/
def rCode : FVec Ideal S8192x5120 .fp8e4m3 := fun y => Spec.rowCode (eFac V c) (eC V c (y 0)) (eS V c (y 0)) (eRow (eMaster V c) (y 0)) (eRow (eM V c) (y 0)) (eRow (eV V c) (y 0)) (y 1)

theorem point_code (r : Fin 64) (q : Fin 5120) : (outsAt1 V c t).2.2.2.2.2.1 (ix2 r q) = rCode V c (ix2 (grow t r) q) := by
  refine (out1_code _ _ _ _ _ _ _ _ _ _ _ _ _ _ _ _ _ _ _ _ _ _ _ _ _ _ _ _ _ _ _ _ _ _ _ _ _ _ _ _ _).trans ?_
  show Spec.rowCode (fac (iblk1 V c 0 t) (iblk1 V c 1 t) (iblk1 V c 2 t)) (rowC (iblk1 V c 3 t) r) (rowS (iblk1 V c 4 t) r) (rowX (iblk1 V c 5 t) r) (rowX (iblk1 V c 6 t) r) (rowX (iblk1 V c 7 t) r) q = _
  rw [fac_eq, rowC_eq, rowS_eq, rowP_eq, rowM_eq, rowV_eq]
  rfl

theorem emb_code (r : Fin 64) (q : Fin 5120) : (((cfg1.win 13).blk t).view.emb (show S64x5120.Idx from ix2 r q) : S8192x5120.Idx) = ix2 (grow t r) q := by
  blk_ext [idx1 t, grow]

theorem final_code : (dat1 V c).arrAt 13 cfg1.N = rCode V c := by
  refine (dat1 V c).arrAt_eq_of_covers 13 (rCode V c) (by decide +kernel) fun t hf y => ?_
  blk_simp
  rw [after1_13]
  obtain ⟨r, q, rfl⟩ : ∃ (r : Fin 64) (q : Fin 5120), y = (show S64x5120.Idx from ix2 r q) := ⟨_, _, eq_ix2 (n0 := 64) (n1 := 5120) y⟩
  exact (point_code V c t r q).trans (congrArg (rCode V c) (emb_code t r q).symm)

/-- The scales after the run. -/
def rScale : FVec Ideal S8192x40 .f32 := fun y => Spec.rowScale (eFac V c) (eC V c (y 0)) (eS V c (y 0)) (eRow (eMaster V c) (y 0)) (eRow (eM V c) (y 0)) (eRow (eV V c) (y 0)) (y 1)

theorem point_scale (r : Fin 64) (q : Fin 40) : (outsAt1 V c t).2.2.2.2.2.2 (ix2 r q) = rScale V c (ix2 (grow t r) q) := by
  refine (out1_scale _ _ _ _ _ _ _ _ _ _ _ _ _ _ _ _ _ _ _ _ _ _ _ _ _ _ _ _ _ _ _ _ _ _ _ _ _ _ _ _ _).trans ?_
  show Spec.rowScale (fac (iblk1 V c 0 t) (iblk1 V c 1 t) (iblk1 V c 2 t)) (rowC (iblk1 V c 3 t) r) (rowS (iblk1 V c 4 t) r) (rowX (iblk1 V c 5 t) r) (rowX (iblk1 V c 6 t) r) (rowX (iblk1 V c 7 t) r) q = _
  rw [fac_eq, rowC_eq, rowS_eq, rowP_eq, rowM_eq, rowV_eq]
  rfl

theorem emb_scale (r : Fin 64) (q : Fin 40) : (((cfg1.win 14).blk t).view.emb (show S64x40.Idx from ix2 r q) : S8192x40.Idx) = ix2 (grow t r) q := by
  blk_ext [idx1 t, grow]

theorem final_scale : (dat1 V c).arrAt 14 cfg1.N = rScale V c := by
  refine (dat1 V c).arrAt_eq_of_covers 14 (rScale V c) (by decide +kernel) fun t hf y => ?_
  blk_simp
  rw [after1_14]
  obtain ⟨r, q, rfl⟩ : ∃ (r : Fin 64) (q : Fin 40), y = (show S64x40.Idx from ix2 r q) := ⟨_, _, eq_ix2 (n0 := 64) (n1 := 40) y⟩
  exact (point_scale V c t r q).trans (congrArg (rScale V c) (emb_scale t r q).symm)

/-- The gradient norm after the run. -/
def rNorm : FVec Ideal S1 .f32 := fun _ => Spec.norm (∑ i : Fin 32, ∑ j : Fin 128, eAcc V c (ix2 i j)) (eOther V c (ix1 0))

theorem point_norm (y : S1.Idx) : (outsAt1 V c t).2.2.2.2.1 y = rNorm V c y := by
  unfold outsAt1
  dsimp only
  rw [out1_norm]
  rw [show iblk1 V c 0 t = eAcc V c from blk_acc V c t, show iblk1 V c 1 t = eOther V c from blk_other V c t]
  rfl

theorem final_norm : (dat1 V c).arrAt 12 cfg1.N = rNorm V c := by
  refine (dat1 V c).arrAt_eq_of_covers 12 (rNorm V c) (by decide +kernel) fun t hf y => ?_
  blk_simp
  rw [after1_12]
  exact point_norm V c t y

end Cert.KernelIdeal.Value

end
-- ==== Proof.Run.lean ====
/- The kernel's run: what its two launches leave in the seven result arrays, from the arguments. -/
module

public import proofs.«01_k».proof.Proof.Region0
public import proofs.«01_k».proof.Proof.Region1

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

section Values

variable (m : (ℓ : Loc nD τ sig) → Buf (Elt Ideal) ℓ) (ρ : Dev nD → PrngReg) (c : Dev nD)

/-- The arguments, as functions of their coordinates. -/
def aC : Fin 4 → Fin 8192 → Fin 5120 → EReal := fun a r q => (show FVec Ideal S4x8192x5120 .fp8e5m2 from m ((c : Thread nD τ).loc main_arg0)) (ix3 a r q)
def aS : Fin 4 → Fin 8192 → Fin 40 → EReal := fun a r b => (show FVec Ideal S4x8192x40 .f32 from m ((c : Thread nD τ).loc main_arg1)) (ix3 a r b)
def aP : Fin 8192 → Fin 5120 → EReal := fun r q => (show FVec Ideal S8192x5120 .f32 from m ((c : Thread nD τ).loc main_arg2)) (ix2 r q)
def aM : Fin 8192 → Fin 5120 → EReal := fun r q => (show FVec Ideal S8192x5120 .f32 from m ((c : Thread nD τ).loc main_arg3)) (ix2 r q)
def aV : Fin 8192 → Fin 5120 → EReal := fun r q => (show FVec Ideal S8192x5120 .f32 from m ((c : Thread nD τ).loc main_arg4)) (ix2 r q)
def aO : EReal := (show FVec Ideal S1 .f32 from m ((c : Thread nD τ).loc main_arg5)) (ix1 0)
def aX : EReal := (show FVec Ideal S1 .f32 from m ((c : Thread nD τ).loc main_arg6)) (ix1 0)

/-- The second kernel is entered with the arguments as launched and with what the first one leaves. -/
theorem entry_code : eCode (V1 m ρ) c = m ((c : Thread nD τ).loc main_arg0) := W1_args m ρ c main_arg0 (by simp [argRefs])
theorem entry_scale : eScale (V1 m ρ) c = m ((c : Thread nD τ).loc main_arg1) := W1_args m ρ c main_arg1 (by simp [argRefs])
theorem entry_master : eMaster (V1 m ρ) c = m ((c : Thread nD τ).loc main_arg2) := W1_args m ρ c main_arg2 (by simp [argRefs])
theorem entry_m : eM (V1 m ρ) c = m ((c : Thread nD τ).loc main_arg3) := W1_args m ρ c main_arg3 (by simp [argRefs])
theorem entry_v : eV (V1 m ρ) c = m ((c : Thread nD τ).loc main_arg4) := W1_args m ρ c main_arg4 (by simp [argRefs])
theorem entry_other : eOther (V1 m ρ) c = m ((c : Thread nD τ).loc main_arg5) := W1_args m ρ c main_arg5 (by simp [argRefs])
theorem entry_max : eMax (V1 m ρ) c = m ((c : Thread nD τ).loc main_arg6) := W1_args m ρ c main_arg6 (by simp [argRefs])
theorem entry_acc : eAcc (V1 m ρ) c = acc0 (V0 m ρ) c := (W1_arr m ρ c 2).trans (final_acc (V0 m ρ) c)

/-- So the partial sums add up to the sum of all squares. -/
theorem total_eq : ∑ i : Fin 32, ∑ j : Fin 128, eAcc (V1 m ρ) c (ix2 i j) = Spec.total (aC m c) (aS m c) := by
  rw [entry_acc, acc0_sum]
  rfl

theorem fac_total : eFac (V1 m ρ) c = Spec.clip (aC m c) (aS m c) (aO m c) (aX m c) := by
  unfold eFac
  rw [total_eq, entry_max, entry_other]
  rfl

theorem row_C (r : Fin 8192) : eC (V1 m ρ) c r = fun a => aC m c a r := by unfold eC; rw [entry_code]; rfl
theorem row_S (r : Fin 8192) : eS (V1 m ρ) c r = fun a => aS m c a r := by unfold eS; rw [entry_scale]; rfl
theorem row_P (r : Fin 8192) : eRow (eMaster (V1 m ρ) c) r = aP m c r := by rw [entry_master]; rfl
theorem row_M (r : Fin 8192) : eRow (eM (V1 m ρ) c) r = aM m c r := by rw [entry_m]; rfl
theorem row_V (r : Fin 8192) : eRow (eV (V1 m ρ) c) r = aV m c r := by rw [entry_v]; rfl

/-- The seven results. -/
def kMaster : FVec Ideal S8192x5120 .f32 := fun y => Spec.wMaster (aC m c) (aS m c) (aP m c) (aM m c) (aV m c) (aO m c) (aX m c) (y 0) (y 1)
def kM : FVec Ideal S8192x5120 .f32 := fun y => Spec.wM (aC m c) (aS m c) (aM m c) (aO m c) (aX m c) (y 0) (y 1)
def kV : FVec Ideal S8192x5120 .f32 := fun y => Spec.wV (aC m c) (aS m c) (aV m c) (aO m c) (aX m c) (y 0) (y 1)
def kUpd : FVec Ideal S8192x5120 .f32 := fun y => Spec.wUpd (aC m c) (aS m c) (aP m c) (aM m c) (aV m c) (aO m c) (aX m c) (y 0) (y 1)
def kNorm : FVec Ideal S1 .f32 := fun y => Spec.wNorm (aC m c) (aS m c) (aO m c)
def kCode : FVec Ideal S8192x5120 .fp8e4m3 := fun y => Spec.wCode (aC m c) (aS m c) (aP m c) (aM m c) (aV m c) (aO m c) (aX m c) (y 0) (y 1)
def kScale : FVec Ideal S8192x40 .f32 := fun y => Spec.wScale (aC m c) (aS m c) (aP m c) (aM m c) (aV m c) (aO m c) (aX m c) (y 0) (y 1)

theorem left_Master : (dat1 (V1 m ρ) c).arrAt 8 cfg1.N = kMaster m c := by
  rw [final_master]
  funext y
  obtain ⟨r, q, rfl⟩ : ∃ (r : Fin 8192) (q : Fin 5120), y = (show S8192x5120.Idx from ix2 r q) := ⟨_, _, eq_ix2 (n0 := 8192) (n1 := 5120) y⟩
  show Spec.rowMaster (eFac (V1 m ρ) c) (eC (V1 m ρ) c r) (eS (V1 m ρ) c r) (eRow (eMaster (V1 m ρ) c) r) (eRow (eM (V1 m ρ) c) r) (eRow (eV (V1 m ρ) c) r) q = _
  rw [fac_total, row_C, row_S, row_P, row_M, row_V]
  rfl

theorem left_M : (dat1 (V1 m ρ) c).arrAt 9 cfg1.N = kM m c := by
  rw [final_m]
  funext y
  obtain ⟨r, q, rfl⟩ : ∃ (r : Fin 8192) (q : Fin 5120), y = (show S8192x5120.Idx from ix2 r q) := ⟨_, _, eq_ix2 (n0 := 8192) (n1 := 5120) y⟩
  show Spec.rowM (eFac (V1 m ρ) c) (eC (V1 m ρ) c r) (eS (V1 m ρ) c r) (eRow (eM (V1 m ρ) c) r) q = _
  rw [fac_total, row_C, row_S, row_M]
  rfl

theorem left_V : (dat1 (V1 m ρ) c).arrAt 10 cfg1.N = kV m c := by
  rw [final_v]
  funext y
  obtain ⟨r, q, rfl⟩ : ∃ (r : Fin 8192) (q : Fin 5120), y = (show S8192x5120.Idx from ix2 r q) := ⟨_, _, eq_ix2 (n0 := 8192) (n1 := 5120) y⟩
  show Spec.rowV (eFac (V1 m ρ) c) (eC (V1 m ρ) c r) (eS (V1 m ρ) c r) (eRow (eV (V1 m ρ) c) r) q = _
  rw [fac_total, row_C, row_S, row_V]
  rfl

theorem left_Upd : (dat1 (V1 m ρ) c).arrAt 11 cfg1.N = kUpd m c := by
  rw [final_upd]
  funext y
  obtain ⟨r, q, rfl⟩ : ∃ (r : Fin 8192) (q : Fin 5120), y = (show S8192x5120.Idx from ix2 r q) := ⟨_, _, eq_ix2 (n0 := 8192) (n1 := 5120) y⟩
  show Spec.rowUpd (eFac (V1 m ρ) c) (eC (V1 m ρ) c r) (eS (V1 m ρ) c r) (eRow (eMaster (V1 m ρ) c) r) (eRow (eM (V1 m ρ) c) r) (eRow (eV (V1 m ρ) c) r) q = _
  rw [fac_total, row_C, row_S, row_P, row_M, row_V]
  rfl

theorem left_Norm : (dat1 (V1 m ρ) c).arrAt 12 cfg1.N = kNorm m c := by
  rw [final_norm]
  funext y
  unfold rNorm
  rw [total_eq, entry_other]
  rfl

theorem left_Code : (dat1 (V1 m ρ) c).arrAt 13 cfg1.N = kCode m c := by
  rw [final_code]
  funext y
  obtain ⟨r, q, rfl⟩ : ∃ (r : Fin 8192) (q : Fin 5120), y = (show S8192x5120.Idx from ix2 r q) := ⟨_, _, eq_ix2 (n0 := 8192) (n1 := 5120) y⟩
  show Spec.rowCode (eFac (V1 m ρ) c) (eC (V1 m ρ) c r) (eS (V1 m ρ) c r) (eRow (eMaster (V1 m ρ) c) r) (eRow (eM (V1 m ρ) c) r) (eRow (eV (V1 m ρ) c) r) q = _
  rw [fac_total, row_C, row_S, row_P, row_M, row_V]
  rfl

theorem left_Scale : (dat1 (V1 m ρ) c).arrAt 14 cfg1.N = kScale m c := by
  rw [final_scale]
  funext y
  obtain ⟨r, q, rfl⟩ : ∃ (r : Fin 8192) (q : Fin 40), y = (show S8192x40.Idx from ix2 r q) := ⟨_, _, eq_ix2 (n0 := 8192) (n1 := 40) y⟩
  show Spec.rowScale (eFac (V1 m ρ) c) (eC (V1 m ρ) c r) (eS (V1 m ρ) c r) (eRow (eMaster (V1 m ρ) c) r) (eRow (eM (V1 m ρ) c) r) (eRow (eV (V1 m ρ) c) r) q = _
  rw [fac_total, row_C, row_S, row_P, row_M, row_V]
  rfl

end Values

variable (m : (ℓ : Loc nD τ sig) → Buf (Elt Ideal) ℓ) (ρ : Dev nD → PrngReg)

-- the launch theorem's implicit arguments are found by unifying its conclusion with this one
set_option backward.isDefEq.respectTransparency.types false in
/-- The run leaves the seven results, and the arguments as launched. -/
theorem run : θ_run defs (onTc (τ := τ) (main (F := Ideal))) ⟨m, fun _ => 0, ρ⟩ (fun r => ∀ c : Dev nD,
      r.2.mem ((c.tc : Thread nD τ).loc main_v1_0) = kMaster m c
      ∧ r.2.mem ((c.tc : Thread nD τ).loc main_v1_1) = kM m c
      ∧ r.2.mem ((c.tc : Thread nD τ).loc main_v1_2) = kV m c
      ∧ r.2.mem ((c.tc : Thread nD τ).loc main_v1_3) = kUpd m c
      ∧ r.2.mem ((c.tc : Thread nD τ).loc main_v1_4) = kNorm m c
      ∧ r.2.mem ((c.tc : Thread nD τ).loc main_v1_5) = kCode m c
      ∧ r.2.mem ((c.tc : Thread nD τ).loc main_v1_6) = kScale m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz c =>
      ⟨(h c _ (mem_uc main_v1_0 (by decide))).trans ((W2_arr m ρ c 8).trans (left_Master m ρ c)),
       (h c _ (mem_uc main_v1_1 (by decide))).trans ((W2_arr m ρ c 9).trans (left_M m ρ c)),
       (h c _ (mem_uc main_v1_2 (by decide))).trans ((W2_arr m ρ c 10).trans (left_V m ρ c)),
       (h c _ (mem_uc main_v1_3 (by decide))).trans ((W2_arr m ρ c 11).trans (left_Upd m ρ c)),
       (h c _ (mem_uc main_v1_4 (by decide))).trans ((W2_arr m ρ c 12).trans (left_Norm m ρ c)),
       (h c _ (mem_uc main_v1_5 (by decide))).trans ((W2_arr m ρ c 13).trans (left_Code m ρ c)),
       (h c _ (mem_uc main_v1_6 (by decide))).trans ((W2_arr m ρ c 14).trans (left_Scale m ρ c)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c),
       (h c _ (mem_uc main_arg6 (by decide))).trans (W2_main_arg6 m ρ c)⟩)

end Cert.KernelIdeal.Value

end
-- ==== Proof.RefPure.lean ====
/- The reference's arithmetic at an index: each of its array values comes out as the scalar function of Spec.lean. -/
module

public import proofs.«01_k».proof.Proof.Gen.ReferenceIdeal.Value
public import proofs.«01_k».proof.Proof.Spec
public import Idealize.ShloMosaic.Lib.Pointwise
public import Idealize.ShloMosaic.Lib.Pipeline.ValueKit

@[expose] public section

set_option maxRecDepth 16384

noncomputable section

namespace Cert.ReferenceIdeal.Result

open Idealize.ShloMosaic Idealize.ShloMosaic.TcCoe Idealize.SL.Sem Idealize.ShloMosaic.Tactic
open Cert.ReferenceIdeal Cert.ReferenceIdeal.Gen

/-- The scaled largest magnitude of each group of 128 numbers of a row. -/
def mags (x : FVec Ideal S8192x40x128 .f32) : FVec Ideal S8192x40 .f32 :=
  mulf (F := Ideal) (multiReduction (F := Ideal) .maximumf [2] S8192x40 (absf (F := Ideal) x) 0xFF800000#32 reduces_S8192x40x128_S8192x40 (.inl rfl) rfl)
    (broadcast S8192x40 (Scalar.ofBits (F := Ideal) .f32 0x3B124925#32))

/-- A largest number over the last of three axes, read at an index. -/
theorem max_last {n0 n1 n2 : ℕ} (x : FVec Ideal ⟨3, ![n0, n1, n2]⟩ .f32) (h : (⟨3, ![n0, n1, n2]⟩ : Shape).Reduces [2] ⟨2, ![n0, n1]⟩)
    (hφ : FKind.Formats .f32) (ha : (0xFF800000#32 : BitVec 32) = FKind.maximumf.neutral .f32 hφ) (i : Fin n0) (j : Fin n1) :
    multiReduction (F := Ideal) .maximumf [2] ⟨2, ![n0, n1]⟩ x 0xFF800000#32 h hφ ha (ix2 i j)
      = Finset.fold max (Ideal.ofBits .f32 0xFF800000#32) (fun k : Fin n2 => x (ix3 i j k)) Finset.univ := by
  pointwise []

theorem mags_apply (x : FVec Ideal S8192x40x128 .f32) (r : Fin 8192) (b : Fin 40) :
    mags x (ix2 r b) = Spec.amax fun l => x (ix3 r b l) := by
  unfold mags Spec.amax
  rw [mulf_apply]
  rw [show multiReduction (F := Ideal) .maximumf [2] S8192x40 (absf (F := Ideal) x) 0xFF800000#32 reduces_S8192x40x128_S8192x40 (.inl rfl) rfl (ix2 r b) = _ from max_last (n0 := 8192) (n1 := 40) (n2 := 128) (absf (F := Ideal) x) reduces_S8192x40x128_S8192x40 (.inl rfl) rfl r b]
  rfl

theorem ln2_eq : Named.named (F := Ideal) κ "ln2" (φ := .f32) 0x3F317218#32 = ((Real.log 2 : ℝ) : EReal) :=
  IdealRules.named_const.ideal_named_scalar _ _ _ _ rfl

/-- The exponents, from the scaled magnitudes. -/
def expo (x : FVec Ideal S8192x40 .f32) : FVec Ideal S8192x40 .f32 :=
  select (ori (cmpf (F := Ideal) .olt x (broadcast S8192x40 (Scalar.ofBits (F := Ideal) .f32 0x00800000#32)))
      (cmpf (F := Ideal) .oge x (broadcast S8192x40 (Scalar.ofBits (F := Ideal) .f32 0x7E800000#32))))
    (broadcast S8192x40 (Scalar.ofBits (F := Ideal) .f32 0x00000000#32))
    (addf (F := Ideal) (floor (F := Ideal) (divf (F := Ideal) (log (F := Ideal) x) (broadcast S8192x40 (Named.named (F := Ideal) κ "ln2" (φ := .f32) 0x3F317218#32))))
      (broadcast S8192x40 (Scalar.ofBits (F := Ideal) .f32 0x3F800000#32)))

theorem pay_expo (v0 v31 v37 : FVec Ideal S8192x5120 .f32) :
    k0_pay11 (F := Ideal) v0 v31 v37 = expo (mags (k0_pay10 (F := Ideal) v0 v31 v37)) := by
  unfold k0_pay11 expo mags
  rfl

theorem expo_apply (x : FVec Ideal S8192x40 .f32) (r : Fin 8192) (b : Fin 40) :
    expo x (ix2 r b) = Exponent.refExp ((Real.log 2 : ℝ) : EReal) (x (ix2 r b)) := by
  pointwise [expo]
  rw [ln2_eq]
  rfl

/-- Dividing by four is multiplying by a quarter. -/
theorem div_four (x : EReal) : Ideal.div x (Ideal.ofBits .f32 0x40800000#32) = x * Spec.quarter := by
  have h : Ideal.ofBits .f32 0x40800000#32 = ((4 : ℝ) : EReal) := by simp [Ideal.ofBits, Ideal.ieee, -EReal.coe_mul]; norm_num
  have h' : Spec.quarter = ((1 / 4 : ℝ) : EReal) := by unfold Spec.quarter; simp [Ideal.ofBits, Ideal.ieee, -EReal.coe_mul]; norm_num
  rw [h, h', Ideal.div_coe (by norm_num)]

/-- The mean gradient over the ranks. -/
theorem pay_g (x : FVec Ideal S4x8192x5120 .fp8e5m2) (s : FVec Ideal S4x8192x40 .f32) (r : Fin 8192) (q : Fin 5120) :
    k0_pay3 (F := Ideal) x s (ix2 r q) = Spec.gAt (fun a r q => x (ix3 a r q)) (fun a r b => s (ix3 a r b)) r q * Spec.quarter := by
  pointwise [k0_pay3]
  exact div_four _

theorem pay_norm (x : FVec Ideal S4x8192x5120 .fp8e5m2) (s : FVec Ideal S4x8192x40 .f32) (o : Ideal .f32) :
    k0_pay4 (F := Ideal) x s o = Spec.norm (Spec.total (fun a r q => x (ix3 a r q)) (fun a r b => s (ix3 a r b))) o := by
  pointwise [k0_pay4]
  simp only [pay_g]
  unfold Spec.norm Spec.total Spec.sq
  rfl

/-- The clipped mean gradient: the gradient sum times the factor. -/
theorem pay_clip (x : FVec Ideal S4x8192x5120 .fp8e5m2) (s : FVec Ideal S4x8192x40 .f32) (o mx : Ideal .f32) (r : Fin 8192) (q : Fin 5120) :
    k0_pay5 (F := Ideal) x s o mx (ix2 r q)
      = Spec.gAt (fun a r q => x (ix3 a r q)) (fun a r b => s (ix3 a r b)) r q
        * Spec.clip (fun a r q => x (ix3 a r q)) (fun a r b => s (ix3 a r b)) o mx := by
  pointwise [k0_pay5]
  rw [pay_g, pay_norm]
  unfold Spec.clip Spec.factor
  rw [mul_assoc, mul_comm Spec.quarter]

theorem pay_m (M : FVec Ideal S8192x5120 .f32) (x : FVec Ideal S4x8192x5120 .fp8e5m2) (s : FVec Ideal S4x8192x40 .f32) (o mx : Ideal .f32) (r : Fin 8192) (q : Fin 5120) :
    k0_pay6 (F := Ideal) M x s o mx (ix2 r q) = Spec.mom (M (ix2 r q)) (k0_pay5 (F := Ideal) x s o mx (ix2 r q)) := by
  pointwise [k0_pay6, Spec.mom]

theorem pay_v (V : FVec Ideal S8192x5120 .f32) (x : FVec Ideal S4x8192x5120 .fp8e5m2) (s : FVec Ideal S4x8192x40 .f32) (o mx : Ideal .f32) (r : Fin 8192) (q : Fin 5120) :
    k0_pay7 (F := Ideal) V x s o mx (ix2 r q) = Spec.vel (V (ix2 r q)) (k0_pay5 (F := Ideal) x s o mx (ix2 r q)) := by
  pointwise [k0_pay7, Spec.vel]

/-- Dividing by the bias corrections is multiplying by their inverses. -/
theorem div_bc1 (x : EReal) : Ideal.div x (Named.named (F := Ideal) κ "bc1" (φ := .f32) 0x3F60E05A#32) = x * ((Spec.ibc1 : ℝ) : EReal) := by
  rw [show Named.named (F := Ideal) κ "bc1" (φ := .f32) 0x3F60E05A#32 = ((87842334540943071199 / 100000000000000000000 : ℝ) : EReal)
      from IdealRules.named_const.ideal_named_scalar _ _ _ _ rfl, Ideal.div_coe (by norm_num)]
  congr 2
  norm_num [Spec.ibc1]

theorem div_bc2 (x : EReal) : Ideal.div x (Named.named (F := Ideal) κ "bc2" (φ := .f32) 0x3F243A44#32) = x * ((Spec.ibc2 : ℝ) : EReal) := by
  rw [show Named.named (F := Ideal) κ "bc2" (φ := .f32) 0x3F243A44#32 = ((67267626542454041806644399 / 104857600000000000000000000 : ℝ) : EReal)
      from IdealRules.named_const.ideal_named_scalar _ _ _ _ rfl, Ideal.div_coe (by norm_num)]
  congr 2
  norm_num [Spec.ibc2]

theorem pay_upd (P m v : FVec Ideal S8192x5120 .f32) (r : Fin 8192) (q : Fin 5120) (M V g : EReal)
    (hm : m (ix2 r q) = Spec.mom M g) (hv : v (ix2 r q) = Spec.vel V g) :
    k0_pay8 (F := Ideal) P m v (ix2 r q) = Spec.upd (P (ix2 r q)) M V g := by
  pointwise [k0_pay8]
  rw [div_bc1, div_bc2, hm, hv]
  rfl

theorem pay_master (P m v : FVec Ideal S8192x5120 .f32) (r : Fin 8192) (q : Fin 5120) :
    k0_pay9 (F := Ideal) P m v (ix2 r q) = P (ix2 r q) - k0_pay8 (F := Ideal) P m v (ix2 r q) := by
  pointwise [k0_pay9]

theorem pay_split (P m v : FVec Ideal S8192x5120 .f32) (r : Fin 8192) (b : Fin 40) (l : Fin 128) :
    k0_pay10 (F := Ideal) P m v (ix3 r b l) = k0_pay9 (F := Ideal) P m v (ix2 r (Spec.col b l)) := by
  pointwise [k0_pay10]
  exact congrArg (fun q => k0_pay9 (F := Ideal) P m v (ix2 r q)) (Fin.ext (by simp only [Spec.col]; omega))

theorem exp2_apply (e : FVec Ideal S8192x40 .f32) (y : S8192x40.Idx) : k0_pay2 (F := Ideal) e y = Ideal.exp2 (e y) := rfl

/-- The scale of a group of 128 new parameters. -/
theorem pay_scale (P m v : FVec Ideal S8192x5120 .f32) (r : Fin 8192) (b : Fin 40) :
    k0_pay2 (F := Ideal) (k0_pay11 (F := Ideal) P m v) (ix2 r b)
      = Exponent.scale (Spec.amax fun l => k0_pay9 (F := Ideal) P m v (ix2 r (Spec.col b l))) := by
  rw [exp2_apply, pay_expo, expo_apply, mags_apply, Exponent.scale_eq]
  simp only [pay_split]

theorem pay_inv (P m v : FVec Ideal S8192x5120 .f32) (r : Fin 8192) (b : Fin 40) :
    Ideal.exp2 (0 - k0_pay11 (F := Ideal) P m v (ix2 r b))
      = Exponent.inv (Spec.amax fun l => k0_pay9 (F := Ideal) P m v (ix2 r (Spec.col b l))) := by
  rw [pay_expo, expo_apply, mags_apply, Exponent.inv_eq]
  simp only [pay_split]

/-- The codes, from the grouped parameters and the exponents. -/
def codes (y : FVec Ideal S8192x40x128 .f32) (e : FVec Ideal S8192x40 .f32) : FVec Ideal S8192x40x128 .fp8e4m3 :=
  truncf (F := Ideal) .fp8e4m3 (minimumf (F := Ideal) (broadcast S8192x40x128 (Scalar.ofBits (F := Ideal) .f32 0x43E00000#32))
    (maximumf (F := Ideal) (broadcast S8192x40x128 (Scalar.ofBits (F := Ideal) .f32 0xC3E00000#32))
      (mulf (F := Ideal) y (broadcastTo S8192x40x128 (shapeCast S8192x40x1
        (exp2 (F := Ideal) (subf (F := Ideal) (broadcast S8192x40 (Scalar.ofBits (F := Ideal) .f32 0x00000000#32)) e))
        shapeCasts_S8192x40_S8192x40x1) broadcasts_S8192x40x1_S8192x40x128)))) bitsLt_fp8e4m3_f32

theorem pay_codes (P m v : FVec Ideal S8192x5120 .f32) :
    k0_pay12 (F := Ideal) P m v = codes (k0_pay10 (F := Ideal) P m v) (k0_pay11 (F := Ideal) P m v) := by
  unfold k0_pay12 codes
  rfl

theorem codes_apply (y : FVec Ideal S8192x40x128 .f32) (e : FVec Ideal S8192x40 .f32) (r : Fin 8192) (b : Fin 40) (l : Fin 128) :
    codes y e (ix3 r b l) = min (Ideal.ofBits .f32 0x43E00000#32) (max (Ideal.ofBits .f32 0xC3E00000#32)
      (y (ix3 r b l) * Ideal.exp2 (0 - e (ix2 r b)))) := by
  pointwise [codes]
  exact congrArg (fun z : EReal => min (Ideal.ofBits .f32 0x43E00000#32) (max (Ideal.ofBits .f32 0xC3E00000#32) (y (ix3 r b l) * z))) rfl

theorem join_apply (w : FVec Ideal S8192x40x128 .fp8e4m3) (r : Fin 8192) (b : Fin 40) (l : Fin 128) :
    k0_pay1 (F := Ideal) w (ix2 r (Spec.col b l)) = w (ix3 r b l) := by
  pointwise [k0_pay1]
  exact congrArg₂ (fun b l => w (ix3 r b l)) (Fin.ext (by simp only [Spec.col]; omega)) (Fin.ext (by simp only [Spec.col]; omega))

/-- The codes of the new parameters. -/
theorem pay_code (P m v : FVec Ideal S8192x5120 .f32) (r : Fin 8192) (b : Fin 40) (l : Fin 128) :
    k0_pay1 (F := Ideal) (k0_pay12 (F := Ideal) P m v) (ix2 r (Spec.col b l))
      = Spec.code (fun l => k0_pay9 (F := Ideal) P m v (ix2 r (Spec.col b l))) (k0_pay9 (F := Ideal) P m v (ix2 r (Spec.col b l))) := by
  rw [join_apply, pay_codes, codes_apply, pay_split, pay_inv]
  unfold Spec.code
  exact Eq.refl _

end Cert.ReferenceIdeal.Result

end
-- ==== Proof.RefPoint.lean ====
/- What the reference's one step stores in each of its seven result arrays. -/
module

public import proofs.«01_k».proof.Proof.Gen.ReferenceIdeal.Value
public import proofs.«01_k».proof.Proof.RefPure
public import Idealize.ShloMosaic.Lib.Pointwise
public import Idealize.ShloMosaic.Lib.Pipeline.ValueKit

@[expose] public section

set_option maxRecDepth 16384

noncomputable section

namespace Cert.ReferenceIdeal.Result

open Idealize.ShloMosaic Idealize.ShloMosaic.TcCoe Idealize.SL.Sem Idealize.ShloMosaic.Tactic
open Cert.ReferenceIdeal Cert.ReferenceIdeal.Gen

/-- The one number of a one-number array, as it is loaded. -/
theorem ld_word (x : FVec Ideal S1 .f32) (h : 0 < (⟨1, ![1]⟩ : Shape).numel) :
    View.ld (Val := Elt Ideal) (e' := .f32) x (Rect.unit (s := S1) ![0] ![1] inb_S1_S1_0) (Shape.Idx.first h) = x (ix1 0) :=
  congrArg x (funext fun i => by fin_cases i; rfl)

variable (c : Dev nD) (arg0 : Memref sig .tc .vmem S4x8192x5120 .fp8e5m2) (harg0 : arg0.IsWhole) (arg1 : Memref sig .tc .vmem S4x8192x40 .f32) (harg1 : arg1.IsWhole) (arg2 : Memref sig .tc .vmem S8192x5120 .f32) (harg2 : arg2.IsWhole) (arg3 : Memref sig .tc .vmem S8192x5120 .f32) (harg3 : arg3.IsWhole) (arg4 : Memref sig .tc .vmem S8192x5120 .f32) (harg4 : arg4.IsWhole) (arg5 : Memref sig .tc .smem S1 .f32) (harg5 : arg5.IsWhole) (arg6 : Memref sig .tc .smem S1 .f32) (harg6 : arg6.IsWhole) (arg7 : Memref sig .tc .vmem S8192x5120 .f32) (harg7 : arg7.IsWhole) (arg8 : Memref sig .tc .vmem S8192x5120 .f32) (harg8 : arg8.IsWhole) (arg9 : Memref sig .tc .vmem S8192x5120 .f32) (harg9 : arg9.IsWhole) (arg10 : Memref sig .tc .vmem S8192x5120 .f32) (harg10 : arg10.IsWhole) (arg11 : Memref sig .tc .smem S1 .f32) (harg11 : arg11.IsWhole) (arg12 : Memref sig .tc .vmem S8192x5120 .fp8e4m3) (harg12 : arg12.IsWhole) (arg13 : Memref sig .tc .vmem S8192x40 .f32) (harg13 : arg13.IsWhole) (x0 : FVec Ideal S4x8192x5120 .fp8e5m2) (x1 : FVec Ideal S4x8192x40 .f32) (x2 : FVec Ideal S8192x5120 .f32) (x3 : FVec Ideal S8192x5120 .f32) (x4 : FVec Ideal S8192x5120 .f32) (x5 : FVec Ideal S1 .f32) (x6 : FVec Ideal S1 .f32)

theorem out_master : out0_A_7 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 = k0_pay9 (F := Ideal) x2 (k0_pay6 (F := Ideal) x3 x0 x1 (x5 (ix1 0)) (x6 (ix1 0))) (k0_pay7 (F := Ideal) x4 x0 x1 (x5 (ix1 0)) (x6 (ix1 0))) := by
  unfold out0_A_7
  frame_out
  exact congrArg₂ (fun a b => k0_pay9 (F := Ideal) x2 (k0_pay6 (F := Ideal) x3 x0 x1 a b) (k0_pay7 (F := Ideal) x4 x0 x1 a b)) (ld_word x5 _) (ld_word x6 _)

theorem out_m : out0_A_8 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 = k0_pay6 (F := Ideal) x3 x0 x1 (x5 (ix1 0)) (x6 (ix1 0)) := by
  unfold out0_A_8
  frame_out
  exact congrArg₂ (fun a b => (k0_pay6 (F := Ideal) x3 x0 x1 a b)) (ld_word x5 _) (ld_word x6 _)

theorem out_v : out0_A_9 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 = k0_pay7 (F := Ideal) x4 x0 x1 (x5 (ix1 0)) (x6 (ix1 0)) := by
  unfold out0_A_9
  frame_out
  exact congrArg₂ (fun a b => (k0_pay7 (F := Ideal) x4 x0 x1 a b)) (ld_word x5 _) (ld_word x6 _)

theorem out_upd : out0_A_10 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 = k0_pay8 (F := Ideal) x2 (k0_pay6 (F := Ideal) x3 x0 x1 (x5 (ix1 0)) (x6 (ix1 0))) (k0_pay7 (F := Ideal) x4 x0 x1 (x5 (ix1 0)) (x6 (ix1 0))) := by
  unfold out0_A_10
  frame_out
  exact congrArg₂ (fun a b => k0_pay8 (F := Ideal) x2 (k0_pay6 (F := Ideal) x3 x0 x1 a b) (k0_pay7 (F := Ideal) x4 x0 x1 a b)) (ld_word x5 _) (ld_word x6 _)

theorem out_norm : out0_A_11 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 = fun _ => k0_pay4 (F := Ideal) x0 x1 (x5 (ix1 0)) := by
  unfold out0_A_11
  frame_out
  exact congrArg (fun a => fun _ : S1.Idx => k0_pay4 (F := Ideal) x0 x1 a) (ld_word x5 _)

theorem out_code : out0_A_12 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 = k0_pay1 (F := Ideal) (k0_pay12 (F := Ideal) x2 (k0_pay6 (F := Ideal) x3 x0 x1 (x5 (ix1 0)) (x6 (ix1 0))) (k0_pay7 (F := Ideal) x4 x0 x1 (x5 (ix1 0)) (x6 (ix1 0)))) := by
  unfold out0_A_12
  frame_out
  exact congrArg₂ (fun a b => k0_pay1 (F := Ideal) (k0_pay12 (F := Ideal) x2 (k0_pay6 (F := Ideal) x3 x0 x1 a b) (k0_pay7 (F := Ideal) x4 x0 x1 a b))) (ld_word x5 _) (ld_word x6 _)

theorem out_scale : out0_A_13 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 = k0_pay2 (F := Ideal) (k0_pay11 (F := Ideal) x2 (k0_pay6 (F := Ideal) x3 x0 x1 (x5 (ix1 0)) (x6 (ix1 0))) (k0_pay7 (F := Ideal) x4 x0 x1 (x5 (ix1 0)) (x6 (ix1 0)))) := by
  unfold out0_A_13
  frame_out
  exact congrArg₂ (fun a b => k0_pay2 (F := Ideal) (k0_pay11 (F := Ideal) x2 (k0_pay6 (F := Ideal) x3 x0 x1 a b) (k0_pay7 (F := Ideal) x4 x0 x1 a b))) (ld_word x5 _) (ld_word x6 _)

/-! ### The same, at an index -/

theorem at_m (r : Fin 8192) (q : Fin 5120) : k0_pay6 (F := Ideal) x3 x0 x1 (x5 (ix1 0)) (x6 (ix1 0)) (ix2 r q) = Spec.mom (x3 (ix2 r q)) (Spec.gAt (fun a r q => x0 (ix3 a r q)) (fun a r b => x1 (ix3 a r b)) r q * Spec.clip (fun a r q => x0 (ix3 a r q)) (fun a r b => x1 (ix3 a r b)) (x5 (ix1 0)) (x6 (ix1 0))) := by
  rw [pay_m, pay_clip]

theorem at_v (r : Fin 8192) (q : Fin 5120) : k0_pay7 (F := Ideal) x4 x0 x1 (x5 (ix1 0)) (x6 (ix1 0)) (ix2 r q) = Spec.vel (x4 (ix2 r q)) (Spec.gAt (fun a r q => x0 (ix3 a r q)) (fun a r b => x1 (ix3 a r b)) r q * Spec.clip (fun a r q => x0 (ix3 a r q)) (fun a r b => x1 (ix3 a r b)) (x5 (ix1 0)) (x6 (ix1 0))) := by
  rw [pay_v, pay_clip]

theorem at_upd (r : Fin 8192) (q : Fin 5120) : k0_pay8 (F := Ideal) x2 (k0_pay6 (F := Ideal) x3 x0 x1 (x5 (ix1 0)) (x6 (ix1 0))) (k0_pay7 (F := Ideal) x4 x0 x1 (x5 (ix1 0)) (x6 (ix1 0))) (ix2 r q) = Spec.wUpd (fun a r q => x0 (ix3 a r q)) (fun a r b => x1 (ix3 a r b)) (fun r q => x2 (ix2 r q)) (fun r q => x3 (ix2 r q)) (fun r q => x4 (ix2 r q)) (x5 (ix1 0)) (x6 (ix1 0)) r q :=
  pay_upd x2 _ _ r q (x3 (ix2 r q)) (x4 (ix2 r q)) (Spec.gAt (fun a r q => x0 (ix3 a r q)) (fun a r b => x1 (ix3 a r b)) r q * Spec.clip (fun a r q => x0 (ix3 a r q)) (fun a r b => x1 (ix3 a r b)) (x5 (ix1 0)) (x6 (ix1 0))) (at_m x0 x1 x3 x5 x6 r q) (at_v x0 x1 x4 x5 x6 r q)

theorem at_master (r : Fin 8192) (q : Fin 5120) : k0_pay9 (F := Ideal) x2 (k0_pay6 (F := Ideal) x3 x0 x1 (x5 (ix1 0)) (x6 (ix1 0))) (k0_pay7 (F := Ideal) x4 x0 x1 (x5 (ix1 0)) (x6 (ix1 0))) (ix2 r q) = Spec.wMaster (fun a r q => x0 (ix3 a r q)) (fun a r b => x1 (ix3 a r b)) (fun r q => x2 (ix2 r q)) (fun r q => x3 (ix2 r q)) (fun r q => x4 (ix2 r q)) (x5 (ix1 0)) (x6 (ix1 0)) r q := by
  rw [pay_master, at_upd]
  unfold Spec.wMaster Spec.rowMaster Spec.wUpd
  exact Eq.refl _

theorem val_master (r : Fin 8192) (q : Fin 5120) : out0_A_7 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 (ix2 r q) = Spec.wMaster (fun a r q => x0 (ix3 a r q)) (fun a r b => x1 (ix3 a r b)) (fun r q => x2 (ix2 r q)) (fun r q => x3 (ix2 r q)) (fun r q => x4 (ix2 r q)) (x5 (ix1 0)) (x6 (ix1 0)) r q := by
  rw [out_master, at_master]

theorem val_m (r : Fin 8192) (q : Fin 5120) : out0_A_8 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 (ix2 r q) = Spec.wM (fun a r q => x0 (ix3 a r q)) (fun a r b => x1 (ix3 a r b)) (fun r q => x3 (ix2 r q)) (x5 (ix1 0)) (x6 (ix1 0)) r q := by
  rw [out_m, at_m]
  unfold Spec.wM Spec.rowM
  exact Eq.refl _

theorem val_v (r : Fin 8192) (q : Fin 5120) : out0_A_9 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 (ix2 r q) = Spec.wV (fun a r q => x0 (ix3 a r q)) (fun a r b => x1 (ix3 a r b)) (fun r q => x4 (ix2 r q)) (x5 (ix1 0)) (x6 (ix1 0)) r q := by
  rw [out_v, at_v]
  unfold Spec.wV Spec.rowV
  exact Eq.refl _

theorem val_upd (r : Fin 8192) (q : Fin 5120) : out0_A_10 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 (ix2 r q) = Spec.wUpd (fun a r q => x0 (ix3 a r q)) (fun a r b => x1 (ix3 a r b)) (fun r q => x2 (ix2 r q)) (fun r q => x3 (ix2 r q)) (fun r q => x4 (ix2 r q)) (x5 (ix1 0)) (x6 (ix1 0)) r q := by
  rw [out_upd, at_upd]

theorem val_norm (y : S1.Idx) : out0_A_11 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 y = Spec.wNorm (fun a r q => x0 (ix3 a r q)) (fun a r b => x1 (ix3 a r b)) (x5 (ix1 0)) := by
  rw [out_norm, pay_norm]
  unfold Spec.wNorm
  exact Eq.refl _

theorem val_code (r : Fin 8192) (b : Fin 40) (l : Fin 128) : out0_A_12 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 (ix2 r (Spec.col b l)) = Spec.wCode (fun a r q => x0 (ix3 a r q)) (fun a r b => x1 (ix3 a r b)) (fun r q => x2 (ix2 r q)) (fun r q => x3 (ix2 r q)) (fun r q => x4 (ix2 r q)) (x5 (ix1 0)) (x6 (ix1 0)) r (Spec.col b l) := by
  rw [out_code, pay_code]
  simp only [at_master]
  unfold Spec.wCode Spec.rowCode
  rw [Spec.blk_col]
  exact Eq.refl _

theorem val_scale (r : Fin 8192) (b : Fin 40) : out0_A_13 (F := Ideal) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 (ix2 r b) = Spec.wScale (fun a r q => x0 (ix3 a r q)) (fun a r b => x1 (ix3 a r b)) (fun r q => x2 (ix2 r q)) (fun r q => x3 (ix2 r q)) (fun r q => x4 (ix2 r q)) (x5 (ix1 0)) (x6 (ix1 0)) r b := by
  rw [out_scale, pay_scale]
  simp only [at_master]
  unfold Spec.wScale Spec.rowScale
  exact Eq.refl _

end Cert.ReferenceIdeal.Result

end
-- ==== Proof.RefRun.lean ====
/- The reference's run: what it leaves in its seven result arrays, from the arguments. -/
module

public import proofs.«01_k».proof.Proof.Gen.ReferenceIdeal.Value
public import proofs.«01_k».proof.Proof.RefPoint
public import Idealize.ShloMosaic.Lib.Pointwise
public import Idealize.ShloMosaic.Lib.Pipeline.ValueKit

@[expose] public section

set_option maxRecDepth 16384

noncomputable section

namespace Cert.ReferenceIdeal.Result

open Idealize.ShloMosaic Idealize.ShloMosaic.TcCoe Idealize.SL.Sem Idealize.ShloMosaic.Tactic
open Idealize.ShloMosaic.Pipeline (Dat)
open Cert.ReferenceIdeal Cert.ReferenceIdeal.Gen

/-- Every block is its whole array. -/
theorem idx0 : ∀ t : Fin cfg0.N, win0_0.index t = ![0, 0, 0] ∧ win0_1.index t = ![0, 0, 0] ∧ win0_2.index t = ![0, 0]
    ∧ win0_3.index t = ![0, 0] ∧ win0_4.index t = ![0, 0] ∧ win0_5.index t = ![0] ∧ win0_6.index t = ![0]
    ∧ win0_7.index t = ![0, 0] ∧ win0_8.index t = ![0, 0] ∧ win0_9.index t = ![0, 0] ∧ win0_10.index t = ![0, 0]
    ∧ win0_11.index t = ![0] ∧ win0_12.index t = ![0, 0] ∧ win0_13.index t = ![0, 0] :=
  (by decide +kernel : ∀ t : Fin grid0.N, _)

variable (m : (ℓ : Loc nD τ sig) → Buf (Elt Ideal) ℓ) (ρ : Dev nD → PrngReg) (c : Dev nD) (t : Fin cfg0.N)

/-- The arguments. -/
def b0 : FVec Ideal S4x8192x5120 .fp8e5m2 := m ((c : Thread nD τ).loc main_arg0)
def b1 : FVec Ideal S4x8192x40 .f32 := m ((c : Thread nD τ).loc main_arg1)
def b2 : FVec Ideal S8192x5120 .f32 := m ((c : Thread nD τ).loc main_arg2)
def b3 : FVec Ideal S8192x5120 .f32 := m ((c : Thread nD τ).loc main_arg3)
def b4 : FVec Ideal S8192x5120 .f32 := m ((c : Thread nD τ).loc main_arg4)
def b5 : FVec Ideal S1 .f32 := m ((c : Thread nD τ).loc main_arg5)
def b6 : FVec Ideal S1 .f32 := m ((c : Thread nD τ).loc main_arg6)

theorem blk_0 : (show FVec Ideal S4x8192x5120 .fp8e5m2 from iblk m c 0 t) = b0 m c := by blk_ext! [iblk, idx0 t]
theorem blk_1 : (show FVec Ideal S4x8192x40 .f32 from iblk m c 1 t) = b1 m c := by blk_ext! [iblk, idx0 t]
theorem blk_2 : (show FVec Ideal S8192x5120 .f32 from iblk m c 2 t) = b2 m c := by blk_ext! [iblk, idx0 t]
theorem blk_3 : (show FVec Ideal S8192x5120 .f32 from iblk m c 3 t) = b3 m c := by blk_ext! [iblk, idx0 t]
theorem blk_4 : (show FVec Ideal S8192x5120 .f32 from iblk m c 4 t) = b4 m c := by blk_ext! [iblk, idx0 t]
theorem blk_5 : (show FVec Ideal S1 .f32 from iblk m c 5 t) = b5 m c := by blk_ext! [iblk, idx0 t]
theorem blk_6 : (show FVec Ideal S1 .f32 from iblk m c 6 t) = b6 m c := by blk_ext! [iblk, idx0 t]

/-- The seven results. -/
def fMaster : FVec Ideal S8192x5120 .f32 := fun y => Spec.wMaster (fun a r q => b0 m c (ix3 a r q)) (fun a r b => b1 m c (ix3 a r b)) (fun r q => b2 m c (ix2 r q)) (fun r q => b3 m c (ix2 r q)) (fun r q => b4 m c (ix2 r q)) (b5 m c (ix1 0)) (b6 m c (ix1 0)) (y 0) (y 1)
def fM : FVec Ideal S8192x5120 .f32 := fun y => Spec.wM (fun a r q => b0 m c (ix3 a r q)) (fun a r b => b1 m c (ix3 a r b)) (fun r q => b3 m c (ix2 r q)) (b5 m c (ix1 0)) (b6 m c (ix1 0)) (y 0) (y 1)
def fV : FVec Ideal S8192x5120 .f32 := fun y => Spec.wV (fun a r q => b0 m c (ix3 a r q)) (fun a r b => b1 m c (ix3 a r b)) (fun r q => b4 m c (ix2 r q)) (b5 m c (ix1 0)) (b6 m c (ix1 0)) (y 0) (y 1)
def fUpd : FVec Ideal S8192x5120 .f32 := fun y => Spec.wUpd (fun a r q => b0 m c (ix3 a r q)) (fun a r b => b1 m c (ix3 a r b)) (fun r q => b2 m c (ix2 r q)) (fun r q => b3 m c (ix2 r q)) (fun r q => b4 m c (ix2 r q)) (b5 m c (ix1 0)) (b6 m c (ix1 0)) (y 0) (y 1)
def fNorm : FVec Ideal S1 .f32 := fun y => Spec.wNorm (fun a r q => b0 m c (ix3 a r q)) (fun a r b => b1 m c (ix3 a r b)) (b5 m c (ix1 0))
def fCode : FVec Ideal S8192x5120 .fp8e4m3 := fun y => Spec.wCode (fun a r q => b0 m c (ix3 a r q)) (fun a r b => b1 m c (ix3 a r b)) (fun r q => b2 m c (ix2 r q)) (fun r q => b3 m c (ix2 r q)) (fun r q => b4 m c (ix2 r q)) (b5 m c (ix1 0)) (b6 m c (ix1 0)) (y 0) (y 1)
def fScale : FVec Ideal S8192x40 .f32 := fun y => Spec.wScale (fun a r q => b0 m c (ix3 a r q)) (fun a r b => b1 m c (ix3 a r b)) (fun r q => b2 m c (ix2 r q)) (fun r q => b3 m c (ix2 r q)) (fun r q => b4 m c (ix2 r q)) (b5 m c (ix1 0)) (b6 m c (ix1 0)) (y 0) (y 1)

/-- The step's results are those of its blocks, and the blocks are the arguments. -/
theorem point_master (r : Fin 8192) (q : Fin 5120) : (outsAt0 m c t).1 (ix2 r q) = fMaster m c (ix2 r q) := by
  unfold outsAt0
  dsimp only
  rw [val_master]
  rw [show iblk m c 0 t = b0 m c from blk_0 m c t, show iblk m c 1 t = b1 m c from blk_1 m c t, show iblk m c 2 t = b2 m c from blk_2 m c t, show iblk m c 3 t = b3 m c from blk_3 m c t, show iblk m c 4 t = b4 m c from blk_4 m c t, show iblk m c 5 t = b5 m c from blk_5 m c t, show iblk m c 6 t = b6 m c from blk_6 m c t]
  exact Eq.refl _

theorem emb_master (r : Fin 8192) (q : Fin 5120) : (((cfg0.win 7).blk t).view.emb (show S8192x5120.Idx from ix2 r q) : S8192x5120.Idx) = ix2 r q := by
  blk_ext [idx0 t]

theorem final_master : (dats m 0 c).arrAt 7 cfg0.N = fMaster m c := by
  refine (dats m 0 c).arrAt_eq_of_covers 7 (fMaster m c) (by decide +kernel) fun t hf y => ?_
  blk_simp
  rw [after0_7]
  obtain ⟨r, q, rfl⟩ : ∃ (r : Fin 8192) (q : Fin 5120), y = (show S8192x5120.Idx from ix2 r q) := ⟨_, _, eq_ix2 (n0 := 8192) (n1 := 5120) y⟩
  exact (point_master m c t r q).trans (congrArg (fMaster m c) (emb_master t r q).symm)

theorem point_m (r : Fin 8192) (q : Fin 5120) : (outsAt0 m c t).2.1 (ix2 r q) = fM m c (ix2 r q) := by
  unfold outsAt0
  dsimp only
  rw [val_m]
  rw [show iblk m c 0 t = b0 m c from blk_0 m c t, show iblk m c 1 t = b1 m c from blk_1 m c t, show iblk m c 3 t = b3 m c from blk_3 m c t, show iblk m c 5 t = b5 m c from blk_5 m c t, show iblk m c 6 t = b6 m c from blk_6 m c t]
  exact Eq.refl _

theorem emb_m (r : Fin 8192) (q : Fin 5120) : (((cfg0.win 8).blk t).view.emb (show S8192x5120.Idx from ix2 r q) : S8192x5120.Idx) = ix2 r q := by
  blk_ext [idx0 t]

theorem final_m : (dats m 0 c).arrAt 8 cfg0.N = fM m c := by
  refine (dats m 0 c).arrAt_eq_of_covers 8 (fM m c) (by decide +kernel) fun t hf y => ?_
  blk_simp
  rw [after0_8]
  obtain ⟨r, q, rfl⟩ : ∃ (r : Fin 8192) (q : Fin 5120), y = (show S8192x5120.Idx from ix2 r q) := ⟨_, _, eq_ix2 (n0 := 8192) (n1 := 5120) y⟩
  exact (point_m m c t r q).trans (congrArg (fM m c) (emb_m t r q).symm)

theorem point_v (r : Fin 8192) (q : Fin 5120) : (outsAt0 m c t).2.2.1 (ix2 r q) = fV m c (ix2 r q) := by
  unfold outsAt0
  dsimp only
  rw [val_v]
  rw [show iblk m c 0 t = b0 m c from blk_0 m c t, show iblk m c 1 t = b1 m c from blk_1 m c t, show iblk m c 4 t = b4 m c from blk_4 m c t, show iblk m c 5 t = b5 m c from blk_5 m c t, show iblk m c 6 t = b6 m c from blk_6 m c t]
  exact Eq.refl _

theorem emb_v (r : Fin 8192) (q : Fin 5120) : (((cfg0.win 9).blk t).view.emb (show S8192x5120.Idx from ix2 r q) : S8192x5120.Idx) = ix2 r q := by
  blk_ext [idx0 t]

theorem final_v : (dats m 0 c).arrAt 9 cfg0.N = fV m c := by
  refine (dats m 0 c).arrAt_eq_of_covers 9 (fV m c) (by decide +kernel) fun t hf y => ?_
  blk_simp
  rw [after0_9]
  obtain ⟨r, q, rfl⟩ : ∃ (r : Fin 8192) (q : Fin 5120), y = (show S8192x5120.Idx from ix2 r q) := ⟨_, _, eq_ix2 (n0 := 8192) (n1 := 5120) y⟩
  exact (point_v m c t r q).trans (congrArg (fV m c) (emb_v t r q).symm)

theorem point_upd (r : Fin 8192) (q : Fin 5120) : (outsAt0 m c t).2.2.2.1 (ix2 r q) = fUpd m c (ix2 r q) := by
  unfold outsAt0
  dsimp only
  rw [val_upd]
  rw [show iblk m c 0 t = b0 m c from blk_0 m c t, show iblk m c 1 t = b1 m c from blk_1 m c t, show iblk m c 2 t = b2 m c from blk_2 m c t, show iblk m c 3 t = b3 m c from blk_3 m c t, show iblk m c 4 t = b4 m c from blk_4 m c t, show iblk m c 5 t = b5 m c from blk_5 m c t, show iblk m c 6 t = b6 m c from blk_6 m c t]
  exact Eq.refl _

theorem emb_upd (r : Fin 8192) (q : Fin 5120) : (((cfg0.win 10).blk t).view.emb (show S8192x5120.Idx from ix2 r q) : S8192x5120.Idx) = ix2 r q := by
  blk_ext [idx0 t]

theorem final_upd : (dats m 0 c).arrAt 10 cfg0.N = fUpd m c := by
  refine (dats m 0 c).arrAt_eq_of_covers 10 (fUpd m c) (by decide +kernel) fun t hf y => ?_
  blk_simp
  rw [after0_10]
  obtain ⟨r, q, rfl⟩ : ∃ (r : Fin 8192) (q : Fin 5120), y = (show S8192x5120.Idx from ix2 r q) := ⟨_, _, eq_ix2 (n0 := 8192) (n1 := 5120) y⟩
  exact (point_upd m c t r q).trans (congrArg (fUpd m c) (emb_upd t r q).symm)

theorem point_norm (y : S1.Idx) : (outsAt0 m c t).2.2.2.2.1 y = fNorm m c y := by
  unfold outsAt0
  dsimp only
  rw [val_norm]
  rw [show iblk m c 0 t = b0 m c from blk_0 m c t, show iblk m c 1 t = b1 m c from blk_1 m c t, show iblk m c 5 t = b5 m c from blk_5 m c t]
  exact Eq.refl _

theorem final_norm : (dats m 0 c).arrAt 11 cfg0.N = fNorm m c := by
  refine (dats m 0 c).arrAt_eq_of_covers 11 (fNorm m c) (by decide +kernel) fun t hf y => ?_
  blk_simp
  rw [after0_11]
  exact point_norm m c t y

theorem point_code (r : Fin 8192) (q : Fin 5120) : (outsAt0 m c t).2.2.2.2.2.1 (ix2 r q) = fCode m c (ix2 r q) := by
  obtain ⟨b, l, rfl⟩ : ∃ (b : Fin 40) (l : Fin 128), q = Spec.col b l := ⟨Spec.blk q, ⟨q.val % 128, Nat.mod_lt _ (by decide)⟩, Fin.ext (by simp only [Spec.col, Spec.blk]; omega)⟩
  unfold outsAt0
  dsimp only
  rw [val_code]
  rw [show iblk m c 0 t = b0 m c from blk_0 m c t, show iblk m c 1 t = b1 m c from blk_1 m c t, show iblk m c 2 t = b2 m c from blk_2 m c t, show iblk m c 3 t = b3 m c from blk_3 m c t, show iblk m c 4 t = b4 m c from blk_4 m c t, show iblk m c 5 t = b5 m c from blk_5 m c t, show iblk m c 6 t = b6 m c from blk_6 m c t]
  exact Eq.refl _

theorem emb_code (r : Fin 8192) (q : Fin 5120) : (((cfg0.win 12).blk t).view.emb (show S8192x5120.Idx from ix2 r q) : S8192x5120.Idx) = ix2 r q := by
  blk_ext [idx0 t]

theorem final_code : (dats m 0 c).arrAt 12 cfg0.N = fCode m c := by
  refine (dats m 0 c).arrAt_eq_of_covers 12 (fCode m c) (by decide +kernel) fun t hf y => ?_
  blk_simp
  rw [after0_12]
  obtain ⟨r, q, rfl⟩ : ∃ (r : Fin 8192) (q : Fin 5120), y = (show S8192x5120.Idx from ix2 r q) := ⟨_, _, eq_ix2 (n0 := 8192) (n1 := 5120) y⟩
  exact (point_code m c t r q).trans (congrArg (fCode m c) (emb_code t r q).symm)

theorem point_scale (r : Fin 8192) (q : Fin 40) : (outsAt0 m c t).2.2.2.2.2.2 (ix2 r q) = fScale m c (ix2 r q) := by
  unfold outsAt0
  dsimp only
  rw [val_scale]
  rw [show iblk m c 0 t = b0 m c from blk_0 m c t, show iblk m c 1 t = b1 m c from blk_1 m c t, show iblk m c 2 t = b2 m c from blk_2 m c t, show iblk m c 3 t = b3 m c from blk_3 m c t, show iblk m c 4 t = b4 m c from blk_4 m c t, show iblk m c 5 t = b5 m c from blk_5 m c t, show iblk m c 6 t = b6 m c from blk_6 m c t]
  exact Eq.refl _

theorem emb_scale (r : Fin 8192) (q : Fin 40) : (((cfg0.win 13).blk t).view.emb (show S8192x40.Idx from ix2 r q) : S8192x40.Idx) = ix2 r q := by
  blk_ext [idx0 t]

theorem final_scale : (dats m 0 c).arrAt 13 cfg0.N = fScale m c := by
  refine (dats m 0 c).arrAt_eq_of_covers 13 (fScale m c) (by decide +kernel) fun t hf y => ?_
  blk_simp
  rw [after0_13]
  obtain ⟨r, q, rfl⟩ : ∃ (r : Fin 8192) (q : Fin 40), y = (show S8192x40.Idx from ix2 r q) := ⟨_, _, eq_ix2 (n0 := 8192) (n1 := 40) y⟩
  exact (point_scale m c t r q).trans (congrArg (fScale m c) (emb_scale t r q).symm)

/-- The run leaves the seven results, and the arguments as launched. -/
theorem run : θ_run defs (onTc (τ := τ) (main (F := Ideal))) ⟨m, fun _ => 0, ρ⟩ (fun r => ∀ c : Dev nD,
      r.2.mem ((c.tc : Thread nD τ).loc main_v0_0) = fMaster m c
      ∧ r.2.mem ((c.tc : Thread nD τ).loc main_v0_1) = fM m c
      ∧ r.2.mem ((c.tc : Thread nD τ).loc main_v0_2) = fV m c
      ∧ r.2.mem ((c.tc : Thread nD τ).loc main_v0_3) = fUpd m c
      ∧ r.2.mem ((c.tc : Thread nD τ).loc main_v0_4) = fNorm m c
      ∧ r.2.mem ((c.tc : Thread nD τ).loc main_v0_5) = fCode m c
      ∧ r.2.mem ((c.tc : Thread nD τ).loc main_v0_6) = fScale m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => by
    obtain ⟨h0, h1, h2, h3, h4, h5, h6, ha⟩ := h c
    exact ⟨h0.trans (final_master m c), h1.trans (final_m m c), h2.trans (final_v m c), h3.trans (final_upd m c),
      h4.trans (final_norm m c), h5.trans (final_code m c), h6.trans (final_scale m c), ha⟩)
    (Cert.ReferenceIdeal.Value.run_blocks m ρ)

end Cert.ReferenceIdeal.Result

end
-- ==== Proof.Agree.lean ====
/- The kernel and the reference, run from equal arguments, leave equal results: each program's results are the functions
   of Spec.lean of its own arguments. -/
module

public import proofs.«01_k».proof.Proof.Run
public import proofs.«01_k».proof.Proof.RefRun
public import proofs.«01_k».proof.Defs

@[expose] public section

noncomputable section

namespace Cert.Agree

open Idealize.ShloMosaic Idealize.ShloMosaic.TcCoe Idealize.SL.Sem

abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ

section

variable (m : KMem) (m' : RMem) (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
  (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))

include h0 in
theorem arg0 : (fun a r q => Cert.ReferenceIdeal.Result.b0 m' c (ix3 a r q)) = Cert.KernelIdeal.Value.aC m c := by
  unfold Cert.ReferenceIdeal.Result.b0
  rw [h0]
  rfl

include h1 in
theorem arg1 : (fun a r b => Cert.ReferenceIdeal.Result.b1 m' c (ix3 a r b)) = Cert.KernelIdeal.Value.aS m c := by
  unfold Cert.ReferenceIdeal.Result.b1
  rw [h1]
  rfl

include h2 in
theorem arg2 : (fun r q => Cert.ReferenceIdeal.Result.b2 m' c (ix2 r q)) = Cert.KernelIdeal.Value.aP m c := by
  unfold Cert.ReferenceIdeal.Result.b2
  rw [h2]
  rfl

include h3 in
theorem arg3 : (fun r q => Cert.ReferenceIdeal.Result.b3 m' c (ix2 r q)) = Cert.KernelIdeal.Value.aM m c := by
  unfold Cert.ReferenceIdeal.Result.b3
  rw [h3]
  rfl

include h4 in
theorem arg4 : (fun r q => Cert.ReferenceIdeal.Result.b4 m' c (ix2 r q)) = Cert.KernelIdeal.Value.aV m c := by
  unfold Cert.ReferenceIdeal.Result.b4
  rw [h4]
  rfl

include h5 in
theorem arg5 : (Cert.ReferenceIdeal.Result.b5 m' c (ix1 0)) = Cert.KernelIdeal.Value.aO m c := by
  unfold Cert.ReferenceIdeal.Result.b5
  rw [h5]
  rfl

include h6 in
theorem arg6 : (Cert.ReferenceIdeal.Result.b6 m' c (ix1 0)) = Cert.KernelIdeal.Value.aX m c := by
  unfold Cert.ReferenceIdeal.Result.b6
  rw [h6]
  rfl

include h0 h1 h2 h3 h4 h5 h6 in
theorem res_Master : Cert.ReferenceIdeal.Result.fMaster m' c = Cert.KernelIdeal.Value.kMaster m c := by
  unfold Cert.ReferenceIdeal.Result.fMaster Cert.KernelIdeal.Value.kMaster
  rw [arg0 m m' c h0, arg1 m m' c h1, arg2 m m' c h2, arg3 m m' c h3, arg4 m m' c h4, arg5 m m' c h5, arg6 m m' c h6]

include h0 h1 h3 h5 h6 in
theorem res_M : Cert.ReferenceIdeal.Result.fM m' c = Cert.KernelIdeal.Value.kM m c := by
  unfold Cert.ReferenceIdeal.Result.fM Cert.KernelIdeal.Value.kM
  rw [arg0 m m' c h0, arg1 m m' c h1, arg3 m m' c h3, arg5 m m' c h5, arg6 m m' c h6]

include h0 h1 h4 h5 h6 in
theorem res_V : Cert.ReferenceIdeal.Result.fV m' c = Cert.KernelIdeal.Value.kV m c := by
  unfold Cert.ReferenceIdeal.Result.fV Cert.KernelIdeal.Value.kV
  rw [arg0 m m' c h0, arg1 m m' c h1, arg4 m m' c h4, arg5 m m' c h5, arg6 m m' c h6]

include h0 h1 h2 h3 h4 h5 h6 in
theorem res_Upd : Cert.ReferenceIdeal.Result.fUpd m' c = Cert.KernelIdeal.Value.kUpd m c := by
  unfold Cert.ReferenceIdeal.Result.fUpd Cert.KernelIdeal.Value.kUpd
  rw [arg0 m m' c h0, arg1 m m' c h1, arg2 m m' c h2, arg3 m m' c h3, arg4 m m' c h4, arg5 m m' c h5, arg6 m m' c h6]

include h0 h1 h5 in
theorem res_Norm : Cert.ReferenceIdeal.Result.fNorm m' c = Cert.KernelIdeal.Value.kNorm m c := by
  unfold Cert.ReferenceIdeal.Result.fNorm Cert.KernelIdeal.Value.kNorm
  rw [arg0 m m' c h0, arg1 m m' c h1, arg5 m m' c h5]

include h0 h1 h2 h3 h4 h5 h6 in
theorem res_Code : Cert.ReferenceIdeal.Result.fCode m' c = Cert.KernelIdeal.Value.kCode m c := by
  unfold Cert.ReferenceIdeal.Result.fCode Cert.KernelIdeal.Value.kCode
  rw [arg0 m m' c h0, arg1 m m' c h1, arg2 m m' c h2, arg3 m m' c h3, arg4 m m' c h4, arg5 m m' c h5, arg6 m m' c h6]

include h0 h1 h2 h3 h4 h5 h6 in
theorem res_Scale : Cert.ReferenceIdeal.Result.fScale m' c = Cert.KernelIdeal.Value.kScale m c := by
  unfold Cert.ReferenceIdeal.Result.fScale Cert.KernelIdeal.Value.kScale
  rw [arg0 m m' c h0, arg1 m m' c h1, arg2 m m' c h2, arg3 m m' c h3, arg4 m m' c h4, arg5 m m' c h5, arg6 m m' c h6]

end

/-- From equal arguments both programs leave the seven results of the kernel. -/
theorem algebraic : Cert.algebraic_KernelIdeal_ReferenceIdeal (hKernelIdeal := Cert.KernelIdeal.Gen.facts) (hReferenceIdeal := Cert.ReferenceIdeal.Gen.facts) := by
  intro m ρ m' ρ' _ hagree
  refine ⟨fun c => Cert.KernelIdeal.Value.kMaster m c, fun c => Cert.KernelIdeal.Value.kM m c, fun c => Cert.KernelIdeal.Value.kV m c, fun c => Cert.KernelIdeal.Value.kUpd m c, fun c => Cert.KernelIdeal.Value.kNorm m c, fun c => Cert.KernelIdeal.Value.kCode m c, fun c => Cert.KernelIdeal.Value.kScale m c, Cert.KernelIdeal.Value.run m ρ, ?_⟩
  refine (θ_run (Cert.ReferenceIdeal.defs (F := Ideal)) _ _).mono (fun r h c => ?_) (Cert.ReferenceIdeal.Result.run m' ρ')
  obtain ⟨h0, h1, h2, h3, h4, h5, h6⟩ := hagree c
  obtain ⟨r0, r1, r2, r3, r4, r5, r6, ha⟩ := h c
  exact ⟨r0.trans (res_Master m m' c h0 h1 h2 h3 h4 h5 h6),
    r1.trans (res_M m m' c h0 h1 h3 h5 h6),
    r2.trans (res_V m m' c h0 h1 h4 h5 h6),
    r3.trans (res_Upd m m' c h0 h1 h2 h3 h4 h5 h6),
    r4.trans (res_Norm m m' c h0 h1 h5),
    r5.trans (res_Code m m' c h0 h1 h2 h3 h4 h5 h6),
    r6.trans (res_Scale m m' c h0 h1 h2 h3 h4 h5 h6), ha⟩

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Reference.Gen.facts,
  fun m ρ _ => Cert.Kernel.Gen.frame m ρ,
  fun m ρ _ => Cert.KernelIdeal.Gen.frame m ρ,
  fun m ρ _ => Cert.ReferenceIdeal.Gen.frame m ρ,
  fun m ρ _ => Cert.Reference.Gen.frame m ρ,
  ⟨IdealRules.named_const.statement _ _ _ _ _ rfl, IdealRules.named_const.statement _ _ _ _ _ rfl⟩,
  ⟨IdealRules.named_const.statement _ _ _ _ _ rfl, IdealRules.named_const.statement _ _ _ _ _ rfl,
    IdealRules.named_const.statement _ _ _ _ _ rfl⟩,
  Cert.Agree.algebraic⟩

end Cert.Proof

end
